-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "span" .f32 0x3F99999A#32 ((6 / 5 : ℝ) : EReal)
  ∧ IdealRules.named_const.Statement Cert.KernelIdeal.κ "quarter_span" .f32 0x3E99999A#32 ((3 / 10 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x2048x5120 : Shape := ⟨3, ![6, 2048, 5120]⟩
abbrev S6x2048x15360 : Shape := ⟨3, ![6, 2048, 15360]⟩
abbrev S5120x15360 : Shape := ⟨2, ![5120, 15360]⟩
abbrev S15360 : Shape := ⟨1, ![15360]⟩
abbrev S12288x5120 : Shape := ⟨2, ![12288, 5120]⟩
abbrev S12288x15360 : Shape := ⟨2, ![12288, 15360]⟩
abbrev S1x15360 : Shape := ⟨2, ![1, 15360]⟩
abbrev S5120x12288 : Shape := ⟨2, ![5120, 12288]⟩
abbrev S512x5120 : Shape := ⟨2, ![512, 5120]⟩
abbrev S5120x768 : Shape := ⟨2, ![5120, 768]⟩
abbrev S512x768 : Shape := ⟨2, ![512, 768]⟩
abbrev S1x768 : Shape := ⟨2, ![1, 768]⟩
abbrev S256x512 : Shape := ⟨2, ![256, 512]⟩
abbrev S256x768 : Shape := ⟨2, ![256, 768]⟩
abbrev S768 : Shape := ⟨1, ![768]⟩
abbrev S512x256 : Shape := ⟨2, ![512, 256]⟩
abbrev S512x12288 : Shape := ⟨2, ![512, 12288]⟩
abbrev S12288x512 : Shape := ⟨2, ![12288, 512]⟩
abbrev S512x512 : Shape := ⟨2, ![512, 512]⟩
abbrev S1x512 : Shape := ⟨2, ![1, 512]⟩

abbrev nBuf : Space → Nat
  | .hbm => 16
  | .vmem => 29
  | .smem => 0
  | _ => 0

abbrev bufTy : (tb : Table) → Fin (tcTables nBuf tb) → BufTy
  | .hbm, ⟨0, _⟩ => ⟨S6x2048x5120, .bf16⟩
  | .hbm, ⟨1, _⟩ => ⟨S6x2048x15360, .bf16⟩
  | .hbm, ⟨2, _⟩ => ⟨S5120x15360, .i8⟩
  | .hbm, ⟨3, _⟩ => ⟨S15360, .f32⟩
  | .hbm, ⟨4, _⟩ => ⟨S5120x15360, .f32⟩
  | .hbm, ⟨5, _⟩ => ⟨S12288x5120, .bf16⟩
  | .hbm, ⟨6, _⟩ => ⟨S12288x15360, .bf16⟩
  | .hbm, ⟨7, _⟩ => ⟨S1x15360, .f32⟩
  | .hbm, ⟨8, _⟩ => ⟨S12288x15360, .bf16⟩
  | .hbm, ⟨9, _⟩ => ⟨S5120x12288, .bf16⟩
  | .hbm, ⟨10, _⟩ => ⟨S1x15360, .f32⟩
  | .hbm, ⟨11, _⟩ => ⟨S1x15360, .f32⟩
  | .hbm, ⟨12, _⟩ => ⟨S5120x15360, .f32⟩
  | .hbm, ⟨13, _⟩ => ⟨S15360, .f32⟩
  | .hbm, ⟨14, _⟩ => ⟨S15360, .f32⟩
  | .hbm, ⟨15, _⟩ => ⟨S6x2048x15360, .bf16⟩
  | .local _ .vmem, ⟨0, _⟩ => ⟨S512x5120, .bf16⟩
  | .local _ .vmem, ⟨1, _⟩ => ⟨S512x5120, .bf16⟩
  | .local _ .vmem, ⟨2, _⟩ => ⟨S5120x768, .i8⟩
  | .local _ .vmem, ⟨3, _⟩ => ⟨S5120x768, .f32⟩
  | .local _ .vmem, ⟨4, _⟩ => ⟨S512x768, .bf16⟩
  | .local _ .vmem, ⟨5, _⟩ => ⟨S512x768, .bf16⟩
  | .local _ .vmem, ⟨6, _⟩ => ⟨S1x768, .f32⟩
  | .local _ .vmem, ⟨7, _⟩ => ⟨S1x768, .f32⟩
  | .local _ .vmem, ⟨8, _⟩ => ⟨S512x768, .bf16⟩
  | .local _ .vmem, ⟨9, _⟩ => ⟨S512x768, .bf16⟩
  | .local _ .vmem, ⟨10, _⟩ => ⟨S256x512, .bf16⟩
  | .local _ .vmem, ⟨11, _⟩ => ⟨S256x512, .bf16⟩
  | .local _ .vmem, ⟨12, _⟩ => ⟨S1x768, .f32⟩
  | .local _ .vmem, ⟨13, _⟩ => ⟨S1x768, .f32⟩
  | .local _ .vmem, ⟨14, _⟩ => ⟨S1x768, .f32⟩
  | .local _ .vmem, ⟨15, _⟩ => ⟨S1x768, .f32⟩
  | .local _ .vmem, ⟨16, _⟩ => ⟨S5120x768, .bf16⟩
  | .local _ .vmem, ⟨17, _⟩ => ⟨S512x12288, .bf16⟩
  | .local _ .vmem, ⟨18, _⟩ => ⟨S512x12288, .bf16⟩
  | .local _ .vmem, ⟨19, _⟩ => ⟨S12288x512, .bf16⟩
  | .local _ .vmem, ⟨20, _⟩ => ⟨S12288x512, .bf16⟩
  | .local _ .vmem, ⟨21, _⟩ => ⟨S512x512, .i8⟩
  | .local _ .vmem, ⟨22, _⟩ => ⟨S512x512, .i8⟩
  | .local _ .vmem, ⟨23, _⟩ => ⟨S1x512, .f32⟩
  | .local _ .vmem, ⟨24, _⟩ => ⟨S1x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | _, _ => ⟨S6x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27

abbrev nD : Nat := 1
abbrev τ : Topo := Topo.v7x

variable {F : FTy → Type} [FloatOps F]

abbrev grid0 : Pipeline.Grid := ⟨2, ![20, 24], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_18 : BitVec 32 := 0#32
  let c20_i32 : BitVec 32 := 20#32
  let v30 : BitVec 32 := Scalar.addi c0_i32_18 c20_i32
  let c1_i32 : BitVec 32 := 1#32
  ⟨c0_i32_18, v30, c1_i32⟩
def k0_mult1 (k0_t1 : Fin k0_t1_loop.trips) : BitVec 32 :=
  let c0_i32_18 : BitVec 32 := 0#32
  let c1_i32 : BitVec 32 := 1#32
  let arg12 : BitVec 32 := Scf.iv c0_i32_18 c1_i32 k0_t1
  let c256_i32_26 : BitVec 32 := 256#32
  let v37 : BitVec 32 := Scalar.muli arg12 c256_i32_26
  v37
def k0_off1 (k0_t1 : Fin k0_t1_loop.trips) : Fin 2 → Nat :=
  let c0_i32_18 : BitVec 32 := 0#32
  let c1_i32 : BitVec 32 := 1#32
  let arg12 : BitVec 32 := Scf.iv c0_i32_18 c1_i32 k0_t1
  let c256_i32_26 : BitVec 32 := 256#32
  let v37 : BitVec 32 := Scalar.muli arg12 c256_i32_26
  let v38 : BitVec 32 := v37
  let v39 : Index := Scalar.indexCast v38
  let c0_27 : Index := 0#32
  ![v39.toNat, 0]
def k0_mult2 (i : grid0.Coords) : BitVec 32 :=
  let arg0 : BitVec 32 := BitVec.ofNat 32 (i 0).val
  let c256_i32 : BitVec 32 := 256#32
  let v22 : BitVec 32 := Scalar.muli arg0 c256_i32
  v22
def k0_off2 (i : grid0.Coords) : Fin 2 → Nat :=
  let c0_14 : Index := 0#32
  let arg0 : BitVec 32 := BitVec.ofNat 32 (i 0).val
  let c256_i32 : BitVec 32 := 256#32
  let v22 : BitVec 32 := Scalar.muli arg0 c256_i32
  let v23 : BitVec 32 := v22
  let v24 : Index := Scalar.indexCast v23
  ![0, v24.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S5120x768 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S5120x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![30, 10], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x12288 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S12288x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== KernelIdeal.lean ====
variable {F : FTy → Type} [FloatOps F] [Named F]
def κ : String → Option EReal := fun
  | "quarter_span" => some ((3 / 10 : ℝ) : EReal)
  | "span" => some ((6 / 5 : ℝ) : EReal)
  | _ => none
-- ==== ReferenceIdeal.lean ====
abbrev S6x2048x5120 : Shape := ⟨3, ![6, 2048, 5120]⟩
abbrev S6x2048x15360 : Shape := ⟨3, ![6, 2048, 15360]⟩
abbrev S5120x15360 : Shape := ⟨2, ![5120, 15360]⟩
abbrev S15360 : Shape := ⟨1, ![15360]⟩
abbrev S_ : Shape := ⟨0, ![]⟩
abbrev S1x15360 : Shape := ⟨2, ![1, 15360]⟩
abbrev S12288x5120 : Shape := ⟨2, ![12288, 5120]⟩
abbrev S12288x15360 : Shape := ⟨2, ![12288, 15360]⟩

abbrev nBuf : Space → Nat
  | .hbm => 123
  | .vmem => 0
  | .smem => 0
  | _ => 0

abbrev bufTy : (tb : Table) → Fin (tcTables nBuf tb) → BufTy
  | .hbm, ⟨0, _⟩ => ⟨S6x2048x5120, .bf16⟩
  | .hbm, ⟨1, _⟩ => ⟨S6x2048x15360, .bf16⟩
  | .hbm, ⟨2, _⟩ => ⟨S5120x15360, .i8⟩
  | .hbm, ⟨3, _⟩ => ⟨S15360, .f32⟩
  | .hbm, ⟨4, _⟩ => ⟨S5120x15360, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S5120x15360, .f32⟩
  | .hbm, ⟨12, _⟩ => ⟨S5120x15360, .f32⟩
  | .hbm, ⟨13, _⟩ => ⟨S_, .f32⟩
  | .hbm, ⟨14, _⟩ => ⟨S5120x15360, .f32⟩
  | .hbm, ⟨15, _⟩ => ⟨S5120x15360, .f32⟩
  | .hbm, ⟨16, _⟩ => ⟨S_, .f32⟩
  | .hbm, ⟨17, _⟩ => ⟨S5120x15360, .f32⟩
  | .hbm, ⟨18, _⟩ => ⟨S5120x15360, .f32⟩
  | .hbm, ⟨19, _⟩ => ⟨S_, .f32⟩
  | .hbm, ⟨20, _⟩ => ⟨S5120x15360, .f32⟩
  | .hbm, ⟨21, _⟩ => ⟨S5120x15360, .f32⟩
  | .hbm, ⟨22, _⟩ => ⟨S5120x15360, .f32⟩
  | .hbm, ⟨23, _⟩ => ⟨S5120x15360, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S5120x15360, .f32⟩
  | .hbm, ⟨28, _⟩ => ⟨S5120x15360, .f32⟩
  | .hbm, ⟨29, _⟩ => ⟨S_, .f32⟩
  | .hbm, ⟨30, _⟩ => ⟨S5120x15360, .f32⟩
  | .hbm, ⟨31, _⟩ => ⟨S5120x15360, .f32⟩
  | .hbm, ⟨32, _⟩ => ⟨S5120x15360, .i32⟩
  | .hbm, ⟨33, _⟩ => ⟨S5120x15360, .f32⟩
  | .hbm, ⟨34, _⟩ => ⟨S5120x15360, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S5120x15360, .f32⟩
  | .hbm, ⟨39, _⟩ => ⟨S5120x15360, .f32⟩
  | .hbm, ⟨40, _⟩ => ⟨S_, .f32⟩
  | .hbm, ⟨41, _⟩ => ⟨S5120x15360, .f32⟩
  | .hbm, ⟨42, _⟩ => ⟨S5120x15360, .f32⟩
  | .hbm, ⟨43, _⟩ => ⟨S1x15360, .f32⟩
  | .hbm, ⟨44, _⟩ => ⟨S5120x15360, .f32⟩
  | .hbm, ⟨45, _⟩ => ⟨S5120x15360, .f32⟩
  | .hbm, ⟨46, _⟩ => ⟨S5120x15360, .bf16⟩
  | .hbm, ⟨47, _⟩ => ⟨S12288x5120, .bf16⟩
  | .hbm, ⟨48, _⟩ => ⟨S12288x15360, .bf16⟩
  | .hbm, ⟨49, _⟩ => ⟨S12288x15360, .f32⟩
  | .hbm, ⟨50, _⟩ => ⟨S12288x15360, .f32⟩
  | .hbm, ⟨51, _⟩ => ⟨S12288x15360, .f32⟩
  | .hbm, ⟨52, _⟩ => ⟨S12288x15360, .f32⟩
  | .hbm, ⟨53, _⟩ => ⟨S_, .f32⟩
  | .hbm, ⟨54, _⟩ => ⟨S15360, .f32⟩
  | .hbm, ⟨55, _⟩ => ⟨S_, .f32⟩
  | .hbm, ⟨56, _⟩ => ⟨S15360, .f32⟩
  | .hbm, ⟨57, _⟩ => ⟨S15360, .f32⟩
  | .hbm, ⟨58, _⟩ => ⟨S_, .f32⟩
  | .hbm, ⟨59, _⟩ => ⟨S5120x15360, .f32⟩
  | .hbm, ⟨60, _⟩ => ⟨S5120x15360, .f32⟩
  | .hbm, ⟨61, _⟩ => ⟨S_, .f32⟩
  | .hbm, ⟨62, _⟩ => ⟨S5120x15360, .f32⟩
  | .hbm, ⟨63, _⟩ => ⟨S5120x15360, .f32⟩
  | .hbm, ⟨64, _⟩ => ⟨S5120x15360, .f32⟩
  | .hbm, ⟨65, _⟩ => ⟨S_, .f32⟩
  | .hbm, ⟨66, _⟩ => ⟨S5120x15360, .f32⟩
  | .hbm, ⟨67, _⟩ => ⟨S5120x15360, .f32⟩
  | .hbm, ⟨68, _⟩ => ⟨S_, .f32⟩
  | .hbm, ⟨69, _⟩ => ⟨S5120x15360, .f32⟩
  | .hbm, ⟨70, _⟩ => ⟨S5120x15360, .f32⟩
  | .hbm, ⟨71, _⟩ => ⟨S_, .f32⟩
  | .hbm, ⟨72, _⟩ => ⟨S15360, .f32⟩
  | .hbm, ⟨73, _⟩ => ⟨S_, .f32⟩
  | .hbm, ⟨74, _⟩ => ⟨S15360, .f32⟩
  | .hbm, ⟨75, _⟩ => ⟨S15360, .f32⟩
  | .hbm, ⟨76, _⟩ => ⟨S12288x15360, .bf16⟩
  | .hbm, ⟨77, _⟩ => ⟨S5120x15360, .f32⟩
  | .hbm, ⟨78, _⟩ => ⟨S_, .f32⟩
  | .hbm, ⟨79, _⟩ => ⟨S5120x15360, .f32⟩
  | .hbm, ⟨80, _⟩ => ⟨S5120x15360, .i1⟩
  | .hbm, ⟨81, _⟩ => ⟨S_, .f32⟩
  | .hbm, ⟨82, _⟩ => ⟨S5120x15360, .f32⟩
  | .hbm, ⟨83, _⟩ => ⟨S5120x15360, .i1⟩
  | .hbm, ⟨84, _⟩ => ⟨S_, .f32⟩
  | .hbm, ⟨85, _⟩ => ⟨S5120x15360, .f32⟩
  | .hbm, ⟨86, _⟩ => ⟨S5120x15360, .i1⟩
  | .hbm, ⟨87, _⟩ => ⟨S5120x15360, .i1⟩
  | .hbm, ⟨88, _⟩ => ⟨S_, .f32⟩
  | .hbm, ⟨89, _⟩ => ⟨S5120x15360, .f32⟩
  | .hbm, ⟨90, _⟩ => ⟨S5120x15360, .f32⟩
  | .hbm, ⟨91, _⟩ => ⟨S_, .f32⟩
  | .hbm, ⟨92, _⟩ => ⟨S5120x15360, .f32⟩
  | .hbm, ⟨93, _⟩ => ⟨S5120x15360, .f32⟩
  | .hbm, ⟨94, _⟩ => ⟨S5120x15360, .f32⟩
  | .hbm, ⟨95, _⟩ => ⟨S_, .f32⟩
  | .hbm, ⟨96, _⟩ => ⟨S_, .f32⟩
  | .hbm, ⟨97, _⟩ => ⟨S5120x15360, .f32⟩
  | .hbm, ⟨98, _⟩ => ⟨S5120x15360, .f32⟩
  | .hbm, ⟨99, _⟩ => ⟨S5120x15360, .f32⟩
  | .hbm, ⟨100, _⟩ => ⟨S_, .f32⟩
  | .hbm, ⟨101, _⟩ => ⟨S5120x15360, .f32⟩
  | .hbm, ⟨102, _⟩ => ⟨S5120x15360, .f32⟩
  | .hbm, ⟨103, _⟩ => ⟨S_, .f32⟩
  | .hbm, ⟨104, _⟩ => ⟨S5120x15360, .f32⟩
  | .hbm, ⟨105, _⟩ => ⟨S5120x15360, .f32⟩
  | .hbm, ⟨106, _⟩ => ⟨S5120x15360, .f32⟩
  | .hbm, ⟨107, _⟩ => ⟨S_, .f32⟩
  | .hbm, ⟨108, _⟩ => ⟨S5120x15360, .f32⟩
  | .hbm, ⟨109, _⟩ => ⟨S5120x15360, .f32⟩
  | .hbm, ⟨110, _⟩ => ⟨S1x15360, .f32⟩
  | .hbm, ⟨111, _⟩ => ⟨S5120x15360, .f32⟩
  | .hbm, ⟨112, _⟩ => ⟨S5120x15360, .f32⟩
  | .hbm, ⟨113, _⟩ => ⟨S_, .f32⟩
  | .hbm, ⟨114, _⟩ => ⟨S_, .f32⟩
  | .hbm, ⟨115, _⟩ => ⟨S5120x15360, .f32⟩
  | .hbm, ⟨116, _⟩ => ⟨S5120x15360, .f32⟩
  | .hbm, ⟨117, _⟩ => ⟨S5120x15360, .f32⟩
  | .hbm, ⟨118, _⟩ => ⟨S5120x15360, .f32⟩
  | .hbm, ⟨119, _⟩ => ⟨S5120x15360, .f32⟩
  | .hbm, ⟨120, _⟩ => ⟨S5120x15360, .f32⟩
  | .hbm, ⟨121, _⟩ => ⟨S5120x15360, .f32⟩
  | .hbm, ⟨122, _⟩ => ⟨S6x2048x15360, .bf16⟩
  | _, _ => ⟨S6x2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_cst_1 : Ref sig .tc := ⟨.hbm, 8, rfl⟩
abbrev main_cst_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_3 : Ref sig .tc := ⟨.hbm, 13, rfl⟩
abbrev main_v4 : Ref sig .tc := ⟨.hbm, 14, rfl⟩
abbrev main_v5 : Ref sig .tc := ⟨.hbm, 15, rfl⟩
abbrev main_cst_4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_cst_6 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_7 : Ref sig .tc := ⟨.hbm, 35, rfl⟩
abbrev main_cst_8 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_9 : Ref sig .tc := ⟨.hbm, 53, rfl⟩
abbrev main_v28 : Ref sig .tc := ⟨.hbm, 54, rfl⟩
abbrev main_cst_10 : Ref sig .tc := ⟨.hbm, 55, rfl⟩
abbrev main_v29 : Ref sig .tc := ⟨.hbm, 56, rfl⟩
abbrev main_v30 : Ref sig .tc := ⟨.hbm, 57, rfl⟩
abbrev main_cst_11 : Ref sig .tc := ⟨.hbm, 58, rfl⟩
abbrev main_v31 : Ref sig .tc := ⟨.hbm, 59, rfl⟩
abbrev main_v32 : Ref sig .tc := ⟨.hbm, 60, rfl⟩
abbrev main_cst_12 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_13 : Ref sig .tc := ⟨.hbm, 65, rfl⟩
abbrev main_v36 : Ref sig .tc := ⟨.hbm, 66, rfl⟩
abbrev main_v37 : Ref sig .tc := ⟨.hbm, 67, rfl⟩
abbrev main_cst_14 : Ref sig .tc := ⟨.hbm, 68, rfl⟩
abbrev main_v38 : Ref sig .tc := ⟨.hbm, 69, rfl⟩
abbrev main_v39 : Ref sig .tc := ⟨.hbm, 70, rfl⟩
abbrev main_cst_15 : Ref sig .tc := ⟨.hbm, 71, rfl⟩
abbrev main_v40 : Ref sig .tc := ⟨.hbm, 72, rfl⟩
abbrev main_cst_16 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_17 : Ref sig .tc := ⟨.hbm, 78, rfl⟩
abbrev main_v45 : Ref sig .tc := ⟨.hbm, 79, rfl⟩
abbrev main_v46 : Ref sig .tc := ⟨.hbm, 80, rfl⟩
abbrev main_cst_18 : Ref sig .tc := ⟨.hbm, 81, rfl⟩
abbrev main_v47 : Ref sig .tc := ⟨.hbm, 82, rfl⟩
abbrev main_v48 : Ref sig .tc := ⟨.hbm, 83, rfl⟩
abbrev main_cst_19 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_20 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_21 : Ref sig .tc := ⟨.hbm, 95, rfl⟩
abbrev main_call2_v0 : Ref sig .tc := ⟨.hbm, 96, rfl⟩
abbrev main_call2_v1 : Ref sig .tc := ⟨.hbm, 97, rfl⟩
abbrev main_v58 : Ref sig .tc := ⟨.hbm, 98, rfl⟩
abbrev main_v59 : Ref sig .tc := ⟨.hbm, 99, rfl⟩
abbrev main_cst_22 : Ref sig .tc := ⟨.hbm, 100, rfl⟩
abbrev main_v60 : Ref sig .tc := ⟨.hbm, 101, rfl⟩
abbrev main_v61 : Ref sig .tc := ⟨.hbm, 102, rfl⟩
abbrev main_cst_23 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_24 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_25 : Ref sig .tc := ⟨.hbm, 113, rfl⟩
abbrev main_cst_26 : Ref sig .tc := ⟨.hbm, 114, rfl⟩
abbrev main_call3_v0 : Ref sig .tc := ⟨.hbm, 115, rfl⟩
abbrev main_call3_v1 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩

abbrev nD : Nat := 1
abbrev τ : Topo := Topo.v7x

variable {F : FTy → Type} [FloatOps F]
-- ==== Proof.FwdTrip.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.Value
public import Idealize.ShloMosaic.Lib.WritesUnit
public import Idealize.ShloMosaic.Lib.ValueIdxCore
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F] [Named F]

local notation "𝕄" => MT nD τ sig Unit (Elt F) ℕ (UR sig nD τ) ℕ

/-! # What the weight loop leaves

The forward kernel, at the first row block of a column tile, dequantizes the tile's weights in twenty chunks of 256 rows
and adds up the regularizer's column sums on the way. This module names what the loop leaves: `whatOf` (the whole tile of
dequantized weights) and `regFold` (the running column sums), and proves that the loop's recorded state is these. -/

/-- Rows `256 k … 256 k + 255` of a weight tile. -/
def rowsOf {α : Type} (x : S5120x768.Idx → α) (k : ℕ) : S256x768.Idx → α :=
  fun y => x (ix2 ⟨(256 * k + (y 0).val) % 5120, Nat.mod_lt _ (by decide)⟩ (y 1))

/-- The dequantized weights of a tile: each row from the chunk of 256 rows it lies in. -/
def whatOf (x1 : Vec F S5120x768 .i8) (x2 : Vec F S5120x768 .f32) (x4 : Vec F S1x768 .f32) : Vec F S5120x768 .bf16 :=
  fun y => k0_pay9 (rowsOf x2 ((y 0).val / 256)) (rowsOf x1 ((y 0).val / 256)) x4
    (ix2 ⟨(y 0).val % 256, Nat.mod_lt _ (by decide)⟩ (y 1))

/-- The regularizer's column sums after the first `n` chunks. -/
def regFold (x2 : Vec F S5120x768 .f32) : ℕ → FVec F S1x768 .f32
  | 0 => k0_pay1
  | n + 1 => k0_pay10 (regFold x2 n) (rowsOf x2 n)

/-- A load of the loop's rectangle reads the trip's chunk of rows. -/
theorem ld_rows {e : EltTy} (x : Vec F S5120x768 e) (k : Fin k0_t1_loop.trips) (inb) :
    View.ld (Val := Elt F) (e' := e) x (Rect.unit (s := S5120x768) (k0_off1 k) S256x768.size inb) = rowsOf x k.val := by
  have hk : k.val < 20 := Nat.lt_of_lt_of_le k.isLt k0_t1_abs.2.1
  funext y
  have hy : (y (0 : Fin 2)).val < 256 := (y (0 : Fin 2)).isLt
  show x _ = x _
  congr 1
  funext a
  apply Fin.ext
  have e := congrFun (k0_off1_eq k) a
  match a with
  | ⟨0, _⟩ =>
    show k0_off1 k 0 + 1 * (y (0 : Fin 2)).val = (256 * k.val + (y (0 : Fin 2)).val) % 5120
    rw [show k0_off1 k 0 = 256 * k.val from e, Nat.mod_eq_of_lt (by omega), Nat.one_mul]
  | ⟨1, _⟩ =>
    show k0_off1 k 1 + 1 * (y (1 : Fin 2)).val = (y (1 : Fin 2)).val
    rw [show k0_off1 k 1 = 0 from e]; omega

theorem hz2 : (![0, 0] : Fin 2 → Nat) = fun _ => 0 := funext fun a => by fin_cases a <;> rfl

section
variable (c : Dev nD) (i : grid0.Coords) (arg2 : Memref sig .tc .vmem S512x5120 .bf16) (harg2 : arg2.IsWhole) (arg3 : Memref sig .tc .vmem S5120x768 .i8) (harg3 : arg3.IsWhole) (arg4 : Memref sig .tc .vmem S5120x768 .f32) (harg4 : arg4.IsWhole) (arg5 : Memref sig .tc .vmem S512x768 .bf16) (harg5 : arg5.IsWhole) (arg6 : Memref sig .tc .vmem S1x768 .f32) (harg6 : arg6.IsWhole) (arg7 : Memref sig .tc .vmem S512x768 .bf16) (harg7 : arg7.IsWhole) (arg8 : Memref sig .tc .vmem S256x512 .bf16) (harg8 : arg8.IsWhole) (arg9 : Memref sig .tc .vmem S1x768 .f32) (harg9 : arg9.IsWhole) (arg10 : Memref sig .tc .vmem S1x768 .f32) (harg10 : arg10.IsWhole) (arg11 : Memref sig .tc .vmem S5120x768 .bf16) (harg11 : arg11.IsWhole) (k0_h1 : k0_cond1 i = 1#1)
  (x1 : Vec F S5120x768 .i8) (x2 : Vec F S5120x768 .f32) (x4 : Vec F S1x768 .f32)

/-- What one trip yields: the column sums with the trip's chunk added. -/
theorem tripR_eq (k : Fin k0_t1_loop.trips) (acc : FVec F S1x768 .f32) :
    tripR_k0_t1 (F := F) Variants.none c none i arg2 harg2 arg3 harg3 arg4 harg4 arg5 harg5 arg6 harg6 arg7 harg7 arg8 harg8 arg9 harg9 arg10 harg10 arg11 harg11 k0_h1 (harg3.unread x1) (harg4.unread x2) (harg6.unread x4) k acc
      = k0_pay10 acc (rowsOf x2 k.val) := by
  unfold tripR_k0_t1 trip_k0_t1
  show k0_pay10 acc (arg4.view.readAt (Elt F) (Rect.unit (s := S5120x768) (k0_off1 k) S256x768.size (k0_off1_inb i k k0_h1)) (harg4.unread x2)) = _
  rw [View.readAt_eq_ld, harg4.read_unread, ld_rows]

/-- What one trip stores: the trip's chunk of dequantized weights, at its rows. -/
theorem tripL_eq (k : Fin k0_t1_loop.trips) (acc : FVec F S1x768 .f32) :
    tripL_k0_t1 (F := F) Variants.none c none i arg2 harg2 arg3 harg3 arg4 harg4 arg5 harg5 arg6 harg6 arg7 harg7 arg8 harg8 arg9 harg9 arg10 harg10 arg11 harg11 k0_h1 (harg3.unread x1) (harg4.unread x2) (harg6.unread x4) k acc
      = [⟨Rect.unit (s := S5120x768) (k0_off1 k) S256x768.size (k0_off1_inb i k k0_h1), k0_pay9 (rowsOf x2 k.val) (rowsOf x1 k.val) x4⟩] := by
  unfold tripL_k0_t1 trip_k0_t1
  show [(⟨Rect.unit (s := S5120x768) (k0_off1 k) S256x768.size (k0_off1_inb i k k0_h1), k0_pay9
      (arg4.view.readAt (Elt F) (Rect.unit (s := S5120x768) (k0_off1 k) S256x768.size (k0_off1_inb i k k0_h1)) (harg4.unread x2))
      (arg3.view.readAt (Elt F) (Rect.unit (s := S5120x768) (k0_off1 k) S256x768.size (k0_off1_inb i k k0_h1)) (harg3.unread x1))
      (arg6.view.readAt (Elt F) (Rect.unit (s := S1x768) ![0, 0] S1x768.size inb_S1x768_S1x768_0_0) (harg6.unread x4))⟩ : View.Piece (Elt F) S5120x768 .bf16)] = _
  rw [View.readAt_eq_ld, View.readAt_eq_ld, View.readAt_eq_ld, harg4.read_unread, harg3.read_unread, harg6.read_unread, ld_rows, ld_rows,
    View.ld_unit_zero hz2]

/-- The loop's state after `n` chunks: the column sums `regFold`, and rows below `256 n` holding the dequantized weights. -/
theorem st_eq (f : BufTy.Contents (Elt F) arg11.view.ty) : ∀ n : ℕ, n ≤ 20 →
    (st_k0_t1 (F := F) Variants.none c none i arg2 harg2 arg3 harg3 arg4 harg4 arg5 harg5 arg6 harg6 arg7 harg7 arg8 harg8 arg9 harg9 arg10 harg10 arg11 harg11 k0_h1 (harg3.unread x1) (harg4.unread x2) (harg6.unread x4) (k0_pay1 (F := F)) n).1 = regFold x2 n
    ∧ ∀ y : S5120x768.Idx, (y 0).val < 256 * n →
      arg11.view.read (Elt F) (arg11.view.writes (Elt F) f (st_k0_t1 (F := F) Variants.none c none i arg2 harg2 arg3 harg3 arg4 harg4 arg5 harg5 arg6 harg6 arg7 harg7 arg8 harg8 arg9 harg9 arg10 harg10 arg11 harg11 k0_h1 (harg3.unread x1) (harg4.unread x2) (harg6.unread x4) (k0_pay1 (F := F)) n).2) y
        = whatOf x1 x2 x4 y := by
  have htr : k0_t1_loop.trips = 20 := by decide
  intro n
  induction n with
  | zero => exact fun _ => ⟨rfl, fun y hy => absurd hy (by omega)⟩
  | succ n ih =>
    intro hn
    obtain ⟨ih1, ih2⟩ := ih (by omega)
    have hs := st_k0_t1_succ (F := F) Variants.none c none i arg2 harg2 arg3 harg3 arg4 harg4 arg5 harg5 arg6 harg6 arg7 harg7 arg8 harg8 arg9 harg9 arg10 harg10 arg11 harg11 k0_h1 (harg3.unread x1) (harg4.unread x2) (harg6.unread x4) (k0_pay1 (F := F)) ⟨n, by omega⟩
    rw [tripR_eq, tripL_eq] at hs
    refine ⟨?_, fun y hy => ?_⟩
    · rw [hs]; show k0_pay10 _ _ = _; rw [ih1]; rfl
    · rw [hs]
      show arg11.view.read (Elt F) (arg11.view.writes (Elt F) f (_ :: _)) y = _
      by_cases h : (y 0).val < 256 * n
      · rw [View.read_writes_cons_rows_of_not_mem (d := ![5120, 768]) arg11.view f (k0_off1_inb i ⟨n, by omega⟩ k0_h1) _ _ y (k0_off1_eq ⟨n, by omega⟩) (W := 256) rfl (Or.inl h)]
        exact ih2 y h
      · have hd : (y 0).val / 256 = n := by omega
        have hx : 256 * n + (y 0).val % 256 = (y 0).val := by omega
        rw [View.read_writes_cons_rows_of_mem (d := ![5120, 768]) arg11.view f (k0_off1_inb i ⟨n, by omega⟩ k0_h1) _ _ y (ix2 ⟨(y 0).val % 256, Nat.mod_lt _ (by decide)⟩ (y 1)) (k0_off1_eq ⟨n, by omega⟩) hx.symm rfl]
        unfold whatOf
        rw [hd]

/-- After the whole loop the scratch reads `whatOf`, whatever it held. -/
theorem st_read (f : BufTy.Contents (Elt F) arg11.view.ty) :
    arg11.view.read (Elt F) (arg11.view.writes (Elt F) f (st_k0_t1 (F := F) Variants.none c none i arg2 harg2 arg3 harg3 arg4 harg4 arg5 harg5 arg6 harg6 arg7 harg7 arg8 harg8 arg9 harg9 arg10 harg10 arg11 harg11 k0_h1 (harg3.unread x1) (harg4.unread x2) (harg6.unread x4) (k0_pay1 (F := F)) k0_t1_loop.trips).2)
      = whatOf x1 x2 x4 := by
  have htr : k0_t1_loop.trips = 20 := by decide
  funext y
  have hy : (y (0 : Fin 2)).val < 5120 := (y (0 : Fin 2)).isLt
  rw [htr]
  exact (st_eq c i arg2 harg2 arg3 harg3 arg4 harg4 arg5 harg5 arg6 harg6 arg7 harg7 arg8 harg8 arg9 harg9 arg10 harg10 arg11 harg11 k0_h1 x1 x2 x4 f 20 le_rfl).2 y (by omega)

/-- After the whole loop the carried column sums are `regFold` of the tile. -/
theorem st_acc :
    (st_k0_t1 (F := F) Variants.none c none i arg2 harg2 arg3 harg3 arg4 harg4 arg5 harg5 arg6 harg6 arg7 harg7 arg8 harg8 arg9 harg9 arg10 harg10 arg11 harg11 k0_h1 (harg3.unread x1) (harg4.unread x2) (harg6.unread x4) (k0_pay1 (F := F)) k0_t1_loop.trips).1
      = regFold x2 20 := by
  have htr : k0_t1_loop.trips = 20 := by decide
  rw [htr]
  exact (st_eq c i arg2 harg2 arg3 harg3 arg4 harg4 arg5 harg5 arg6 harg6 arg7 harg7 arg8 harg8 arg9 harg9 arg10 harg10 arg11 harg11 k0_h1 x1 x2 x4 (harg11.unread (whatOf x1 x2 x4)) 20 le_rfl).1
end

end Cert.KernelIdeal.Hand

end
-- ==== Proof.FwdBody.lean ====
module

public import proofs.«01_k».proof.Proof.FwdTrip

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F] [Named F]

local notation "𝕄" => MT nD τ sig Unit (Elt F) ℕ (UR sig nD τ) ℕ

/-! # The forward kernel's body, run once

Two cases: the first row block of a column tile (the loop runs and the two column accumulators are started) and every
other (the scratch and the accumulators are carried). Each states what every buffer holds after the body. -/

/-- Columns `256 q … 256 q + 255` of a row block of the activations. -/
def colsOf {α : Type} (x : S512x5120.Idx → α) (q : ℕ) : S512x256.Idx → α :=
  fun y => x (ix2 (y 0) ⟨(256 * q + (y 1).val) % 5120, Nat.mod_lt _ (by decide)⟩)

/-- A load of the transposed chunk's rectangle reads those columns. -/
theorem ld_cols {e : EltTy} (x : Vec F S512x5120 e) (i : grid0.Coords) (inb) :
    View.ld (Val := Elt F) (e' := e) x (Rect.unit (s := S512x5120) (k0_off2 i) S512x256.size inb) = colsOf x (i 0).val := by
  have hk : (i (0 : Fin 2)).val < 20 := (i (0 : Fin 2)).isLt
  funext y
  have hy : (y (1 : Fin 2)).val < 256 := (y (1 : Fin 2)).isLt
  show x _ = x _
  congr 1
  funext a
  apply Fin.ext
  have e := congrFun (k0_off2_eq i) a
  match a with
  | ⟨0, _⟩ =>
    show k0_off2 i 0 + 1 * (y (0 : Fin 2)).val = (y (0 : Fin 2)).val
    rw [show k0_off2 i 0 = 0 from e]; omega
  | ⟨1, _⟩ =>
    show k0_off2 i 1 + 1 * (y (1 : Fin 2)).val = (256 * (i (0 : Fin 2)).val + (y (1 : Fin 2)).val) % 5120
    rw [show k0_off2 i 1 = 256 * (i (0 : Fin 2)).val from e, Nat.mod_eq_of_lt (by omega), Nat.one_mul]

/-- A whole store, last, leaves its payload. -/
theorem read_writes_whole {S : Shape} {κ : Kind} {sp : Space} {e : EltTy} (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

/-- A load of a whole buffer held at `x` reads `x`. -/
theorem readAt_whole {S : Shape} {e : EltTy} {sp : Space} (mr : Memref sig .tc sp S e) (h : mr.IsWhole) {off : Fin S.rank → Nat} (h0 : off = fun _ => 0)
    (inb : ∀ a, off a + S.size a ≤ S.size a) (x : Vec F S e) :
    mr.view.readAt (Elt F) (Rect.unit off S.size inb).toLoadRect (h.unread x) = x := by
  rw [View.readAt_eq_ld, h.read_unread, View.ld_unit_zero h0]

/-- A load of the transposed chunk's columns of a block held at `x`. -/
theorem readAt_cols (mr : Memref sig .tc .vmem S512x5120 .bf16) (h : mr.IsWhole) (i : grid0.Coords) (inb) (x : Vec F S512x5120 .bf16) :
    mr.view.readAt (Elt F) (Rect.unit (s := S512x5120) (k0_off2 i) S512x256.size inb).toLoadRect (h.unread x) = colsOf x (i 0).val := by
  rw [View.readAt_eq_ld, h.read_unread, ld_cols]

/-- The branch is taken at the first row block of each column tile. -/
abbrev cond0_0 (i : grid0.Coords) : Prop := k0_cond1 i = 1#1
theorem hcond0_0 : ∀ t : Fin cfg0.N, cond0_0 (grid0.coords t) ↔ t.val % 24 = 0 :=
  (fun t => by
    have ht : t.val < 480 := Nat.lt_of_lt_of_eq t.isLt N_0
    have e0 : (grid0.coords t 0).val = t.val / 24 % 20 := Pipeline.Grid.coords_val t 0 (by decide) rfl
    have e1 : (grid0.coords t 1).val = t.val / 1 % 24 := Pipeline.Grid.coords_val t 1 (by decide) rfl
    simp only [cond0_0, k0_cond1, e0, e1]
    word_cmp
   : ∀ t : Fin grid0.N, cond0_0 (grid0.coords t) ↔ t.val % 24 = 0)

set_option maxHeartbeats 1000000 in
/-- The body away from the first row block: from the scratch at `W` and the accumulators at `r` and `g`, the error tile, the
    transposed chunk, and the reconstruction sums with the block's added; the scratch and the regularizer sums kept. -/
theorem kernelRun0_B (c : Dev nD) (i : grid0.Coords) (arg2 : Memref sig .tc .vmem S512x5120 .bf16) (harg2 : arg2.IsWhole) (arg3 : Memref sig .tc .vmem S5120x768 .i8) (harg3 : arg3.IsWhole) (arg4 : Memref sig .tc .vmem S5120x768 .f32) (harg4 : arg4.IsWhole) (arg5 : Memref sig .tc .vmem S512x768 .bf16) (harg5 : arg5.IsWhole) (arg6 : Memref sig .tc .vmem S1x768 .f32) (harg6 : arg6.IsWhole) (arg7 : Memref sig .tc .vmem S512x768 .bf16) (harg7 : arg7.IsWhole) (arg8 : Memref sig .tc .vmem S256x512 .bf16) (harg8 : arg8.IsWhole) (arg9 : Memref sig .tc .vmem S1x768 .f32) (harg9 : arg9.IsWhole) (arg10 : Memref sig .tc .vmem S1x768 .f32) (harg10 : arg10.IsWhole) (arg11 : Memref sig .tc .vmem S5120x768 .bf16) (harg11 : arg11.IsWhole) (hc0 : ¬cond0_0 i)
    (x0 : Vec F S512x5120 .bf16) (x1 : Vec F S5120x768 .i8) (x2 : Vec F S5120x768 .f32) (x3 : Vec F S512x768 .bf16) (x4 : Vec F S1x768 .f32)
    (W : Vec F S5120x768 .bf16) (r g : Vec F S1x768 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare r ∗ owns (c : Thread nD τ) arg10 fullShare g ∗ owns (c : Thread nD τ) arg11 fullShare W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x3 x0 W) ∗ owns (c : Thread nD τ) arg8 fullShare (k0_pay7 (colsOf x0 (i 0).val)) ∗ owns (c : Thread nD τ) arg9 fullShare (k0_pay6 x3 x0 W r) ∗ owns (c : Thread nD τ) arg10 fullShare g ∗ owns (c : Thread nD τ) arg11 fullShare W) -∗ K ⟨⟩))
          ⊢ wp frame (wpE (defs₀ (F := F)) Variants.none c none) E (cc0_fwd i arg2 harg2 arg3 harg3 arg4 harg4 arg5 harg5 arg6 harg6 arg7 harg7 arg8 harg8 arg9 harg9 arg10 harg10 arg11 harg11) K := by
    intro E K
    simp only [cc0_fwd_eq_skeleton]; unfold cc0_fwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4
    obtain rfl := harg9.eq_unread hf7; obtain rfl := harg10.eq_unread hf8; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      rw [read_writes_whole _ _ hz2]
      exact congr (congr (congrArg k0_pay5 (readAt_whole arg5 harg5 hz2 inb_S512x768_S512x768_0_0 x3)) (readAt_whole arg2 harg2 hz2 inb_S512x5120_S512x5120_0_0 x0)) (readAt_whole arg11 harg11 hz2 inb_S5120x768_S5120x768_0_0 W)
    isplitl [H6]
    · iexists _; isplitr; swap; · iexact H6
      ipureintro
      rw [read_writes_whole _ _ hz2]
      exact congrArg k0_pay7 (readAt_cols arg2 harg2 i _ x0)
    isplitl [H7]
    · iexists _; isplitr; swap; · iexact H7
      ipureintro
      rw [read_writes_whole _ _ hz2]
      exact congr (congr (congr (congrArg k0_pay6 (readAt_whole arg5 harg5 hz2 inb_S512x768_S512x768_0_0 x3)) (readAt_whole arg2 harg2 hz2 inb_S512x5120_S512x5120_0_0 x0)) (readAt_whole arg11 harg11 hz2 inb_S5120x768_S5120x768_0_0 W)) (readAt_whole arg9 harg9 hz2 inb_S1x768_S1x768_0_0 r)
    isplitl [H8]
    · iexists _; isplitr; · ipureintro; exact harg10.read_unread _
      iexact H8
    iexists _; isplitr; · ipureintro; exact harg11.read_unread _
    iexact HS0

set_option maxHeartbeats 1000000 in
/-- The body at the first row block of a column tile: whatever the scratch and the accumulators held, the scratch ends at the
    tile's dequantized weights, the reconstruction sums at the block's from zero, the regularizer sums at the tile's. -/
theorem kernelRun0_A (c : Dev nD) (i : grid0.Coords) (arg2 : Memref sig .tc .vmem S512x5120 .bf16) (harg2 : arg2.IsWhole) (arg3 : Memref sig .tc .vmem S5120x768 .i8) (harg3 : arg3.IsWhole) (arg4 : Memref sig .tc .vmem S5120x768 .f32) (harg4 : arg4.IsWhole) (arg5 : Memref sig .tc .vmem S512x768 .bf16) (harg5 : arg5.IsWhole) (arg6 : Memref sig .tc .vmem S1x768 .f32) (harg6 : arg6.IsWhole) (arg7 : Memref sig .tc .vmem S512x768 .bf16) (harg7 : arg7.IsWhole) (arg8 : Memref sig .tc .vmem S256x512 .bf16) (harg8 : arg8.IsWhole) (arg9 : Memref sig .tc .vmem S1x768 .f32) (harg9 : arg9.IsWhole) (arg10 : Memref sig .tc .vmem S1x768 .f32) (harg10 : arg10.IsWhole) (arg11 : Memref sig .tc .vmem S5120x768 .bf16) (harg11 : arg11.IsWhole) (hc0 : cond0_0 i)
    (x0 : Vec F S512x5120 .bf16) (x1 : Vec F S5120x768 .i8) (x2 : Vec F S5120x768 .f32) (x3 : Vec F S512x768 .bf16) (x4 : Vec F S1x768 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x3 x0 (whatOf x1 x2 x4)) ∗ owns (c : Thread nD τ) arg8 fullShare (k0_pay7 (colsOf x0 (i 0).val)) ∗ owns (c : Thread nD τ) arg9 fullShare (k0_pay6 x3 x0 (whatOf x1 x2 x4) (k0_pay3 (F := F))) ∗ owns (c : Thread nD τ) arg10 fullShare (k0_pay2 (regFold x2 20)) ∗ owns (c : Thread nD τ) arg11 fullShare (whatOf x1 x2 x4)) -∗ K ⟨⟩))
          ⊢ wp frame (wpE (defs₀ (F := F)) Variants.none c none) E (cc0_fwd i arg2 harg2 arg3 harg3 arg4 harg4 arg5 harg5 arg6 harg6 arg7 harg7 arg8 harg8 arg9 harg9 arg10 harg10 arg11 harg11) K := by
    intro E K
    simp only [cc0_fwd_eq_skeleton]; unfold cc0_fwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    have hst := st_read (F := F) c i arg2 harg2 arg3 harg3 arg4 harg4 arg5 harg5 arg6 harg6 arg7 harg7 arg8 harg8 arg9 harg9 arg10 harg10 arg11 harg11 hc0 x1 x2 x4 fs0
    have hacc := st_acc (F := F) c i arg2 harg2 arg3 harg3 arg4 harg4 arg5 harg5 arg6 harg6 arg7 harg7 arg8 harg8 arg9 harg9 arg10 harg10 arg11 harg11 hc0 x1 x2 x4
    have e5 : arg5.view.readAt (Elt F) (Rect.unit (s := S512x768) ![0, 0] S512x768.size inb_S512x768_S512x768_0_0).toLoadRect (harg5.unread x3) = x3 := readAt_whole arg5 harg5 hz2 _ x3
    have e2 : arg2.view.readAt (Elt F) (Rect.unit (s := S512x5120) ![0, 0] S512x5120.size inb_S512x5120_S512x5120_0_0).toLoadRect (harg2.unread x0) = x0 := readAt_whole arg2 harg2 hz2 _ x0
    have e11 : arg11.view.readAt (Elt F) (Rect.unit (s := S5120x768) ![0, 0] S5120x768.size inb_S5120x768_S5120x768_0_0).toLoadRect
        (arg11.view.writes (Elt F) fs0 (st_k0_t1 (F := F) Variants.none c none i arg2 harg2 arg3 harg3 arg4 harg4 arg5 harg5 arg6 harg6 arg7 harg7 arg8 harg8 arg9 harg9 arg10 harg10 arg11 harg11 hc0 (harg3.unread x1) (harg4.unread x2) (harg6.unread x4) (k0_pay1 (F := F)) k0_t1_loop.trips).2) = whatOf x1 x2 x4 := by
      rw [View.readAt_eq_ld, hst, View.ld_unit_zero hz2]
    isplitl [H5]
    · iexists _; isplitr; swap; · iexact H5
      ipureintro
      rw [read_writes_whole _ _ hz2]
      exact congr (congr (congrArg k0_pay5 e5) e2) e11
    isplitl [H6]
    · iexists _; isplitr; swap; · iexact H6
      ipureintro
      rw [read_writes_whole _ _ hz2]
      exact congrArg k0_pay7 (readAt_cols arg2 harg2 i _ x0)
    isplitl [H7]
    · iexists _; isplitr; swap; · iexact H7
      ipureintro
      rw [read_writes_whole _ _ hz2]
      exact congr (congr (congr (congrArg k0_pay6 e5) e2) e11) (View.readCov_unit_zero (S := S1x768) _ hz2 _ _)
    isplitl [H8]
    · iexists _; isplitr; swap; · iexact H8
      ipureintro
      rw [read_writes_whole _ _ hz2]
      exact congrArg k0_pay2 hacc
    iexists _; isplitr; swap; · iexact HS0
    ipureintro; exact hst

end Cert.KernelIdeal.Hand

end
-- ==== Proof.FwdDat.lean ====
module

public import proofs.«01_k».proof.Proof.FwdBody
public import Idealize.ShloMosaic.Lib.Pipeline.TableIdle

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F] [Named F]

local notation "𝕄" => MT nD τ sig Unit (Elt F) ℕ (UR sig nD τ) ℕ

/-! # The forward kernel over its grid

Column tile `j` and row block `i` are point `24 j + i`. The scratch holds the tile's dequantized weights from the tile's first
point on; the reconstruction sums grow by one row block a point (`recAt`); the regularizer sums stay. All of it is stated over
the contents `V` the region finds its arrays at. -/

abbrev scM0_0 : Memref sig .tc .vmem S5120x768 .bf16 := Memref.whole cc0_scratch0

/-- The scoped buffers of the other kernel, at anything. -/
def restS (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA0_eq (c : Dev nD) :
    (Pipeline.ΦA spec0 c : sProp 𝕄) = iprop(((∃ d, owns (c : Thread nD τ) scM0_0 fullShare d) ∗ restS (F := F) c) ∗ (∃ r, prngReg c r)) := by
  unfold Pipeline.ΦA restS; rw [scopedRest0_eq]; simp only [scM0_0, owns_whole]; try rfl

variable (V : (c : Dev nD) → (b : Ref sig .tc) → Buf (Elt F) ((c : Thread nD τ).loc b))

/-- Window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The dequantized weights of point `t`'s column tile. -/
def whatAt (c : Dev nD) (t : Fin cfg0.N) : Vec F S5120x768 .bf16 := whatOf (iblk0 V c 1 t) (iblk0 V c 2 t) (iblk0 V c 4 t)

/-- The reconstruction sums after point `n`: restarted at each column tile's first point. -/
def recAt (c : Dev nD) : (n : ℕ) → n < cfg0.N → Vec F S1x768 .f32
  | 0, h => k0_pay6 (iblk0 V c 3 ⟨0, h⟩) (iblk0 V c 0 ⟨0, h⟩) (whatAt V c ⟨0, h⟩) (k0_pay3 (F := F))
  | n + 1, h => k0_pay6 (iblk0 V c 3 ⟨n + 1, h⟩) (iblk0 V c 0 ⟨n + 1, h⟩) (whatAt V c ⟨n + 1, h⟩)
      (if (n + 1) % 24 = 0 then (k0_pay3 (F := F)) else recAt c n (Nat.lt_of_succ_lt h))

theorem recAt_first (c : Dev nD) (n : ℕ) (h : n < cfg0.N) (h0 : n % 24 = 0) :
    recAt V c n h = k0_pay6 (iblk0 V c 3 ⟨n, h⟩) (iblk0 V c 0 ⟨n, h⟩) (whatAt V c ⟨n, h⟩) (k0_pay3 (F := F)) := by
  cases n with
  | zero => rfl
  | succ n => rw [recAt, if_pos h0]

theorem recAt_next (c : Dev nD) (n : ℕ) (h : n + 1 < cfg0.N) (h0 : ¬(n + 1) % 24 = 0) :
    recAt V c (n + 1) h = k0_pay6 (iblk0 V c 3 ⟨n + 1, h⟩) (iblk0 V c 0 ⟨n + 1, h⟩) (whatAt V c ⟨n + 1, h⟩) (recAt V c n (Nat.lt_of_succ_lt h)) := by
  rw [recAt, if_neg h0]

/-- The invariant before point `n`: nothing named before the first, then the scratch at the last point's weights. -/
def PhiS (c : Dev nD) : (n : ℕ) → n ≤ cfg0.N → sProp 𝕄
  | 0, _ => Pipeline.ΦA spec0 c
  | n + 1, h => iprop((owns (c : Thread nD τ) scM0_0 fullShare (whatAt V c ⟨n, h⟩) ∗ restS (F := F) c) ∗ (∃ r, prngReg c r))

theorem PhiS_pos (c : Dev nD) (n : ℕ) (h : n + 1 ≤ cfg0.N) : PhiS V c (n + 1) h =
    iprop((owns (c : Thread nD τ) scM0_0 fullShare (whatAt V c ⟨n, h⟩) ∗ restS (F := F) c) ∗ (∃ r, prngReg c r)) := rfl

/-- Whatever it names, the invariant has the scratch at some contents. -/
theorem PhiS_any (c : Dev nD) (n : ℕ) (h : n ≤ cfg0.N) : PhiS V c n h ⊢ Pipeline.ΦA spec0 c := by
  cases n with
  | zero => exact .rfl
  | succ n =>
    rw [PhiA0_eq, PhiS_pos]
    iintro ⟨⟨HS, HR⟩, Hg⟩
    isplitl [HS HR]
    · isplitl [HS]; · iexists _; iexact HS
      iexact HR
    iexact Hg

/-- The proof data of the forward kernel. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay5 (iblk0 V c 3 t) (iblk0 V c 0 t) (whatAt V c t)
    | ⟨6, _⟩ => k0_pay7 (colsOf (iblk0 V c 0 t) (grid0.coords t 0).val)
    | ⟨7, _⟩ => recAt V c t.val t.isLt
    | ⟨8, _⟩ => k0_pay2 (regFold (iblk0 V c 2 t) 20)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay5 (iblk0 V c 3 t) (iblk0 V c 0 t) (whatAt V c t) := by dsimp only [dat0]
theorem after0_6 (c : Dev nD) (t : Fin cfg0.N) : (dat0 V c).after 6 t = k0_pay7 (colsOf (iblk0 V c 0 t) (grid0.coords t 0).val) := by dsimp only [dat0]
theorem after0_7 (c : Dev nD) (t : Fin cfg0.N) : (dat0 V c).after 7 t = recAt V c t.val t.isLt := by dsimp only [dat0]
theorem after0_8 (c : Dev nD) (t : Fin cfg0.N) : (dat0 V c).after 8 t = k0_pay2 (regFold (iblk0 V c 2 t) 20) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- Away from the first row block of a column tile window 1's block is the point before's. -/
theorem same0_1 (c : Dev nD) (t : Fin cfg0.N) (h : ¬t.val % 24 = 0) :
    iblk0 V c 1 t = iblk0 V c 1 ⟨t.val - 1, Nat.lt_of_le_of_lt (Nat.sub_le _ _) t.isLt⟩ := by
  have hf : (cfg0.win 1).fetch t = false := by
    rw [← Bool.not_eq_true]; exact fun hh => h ((fetch0_1 t).mp hh)
  obtain ⟨_, hix⟩ := (cfg0.win 1).index_eq_of_fetch rfl t hf
  have e : ∀ u : Fin cfg0.N, ∀ d, (dat0 V c).fetched 1 u d = iblk0 V c 1 u := fun u d => by
    unfold Dat.fetched Dat.blockOf iblk0; rw [A_eq0]; try rfl
  by_cases hne : Nonempty ((cfg0.win 1).block.Idx → Elt F (cfg0.win 1).elt)
  · obtain ⟨d⟩ := hne
    rw [← e t d, ← e _ d]
    exact ((dat0 V c).fetched_congr 1 hix.symm rfl d).symm
  · exact absurd ⟨(iblk0 V c 1 t : S5120x768.Idx → _)⟩ hne

/-- Away from the first row block of a column tile window 2's block is the point before's. -/
theorem same0_2 (c : Dev nD) (t : Fin cfg0.N) (h : ¬t.val % 24 = 0) :
    iblk0 V c 2 t = iblk0 V c 2 ⟨t.val - 1, Nat.lt_of_le_of_lt (Nat.sub_le _ _) t.isLt⟩ := by
  have hf : (cfg0.win 2).fetch t = false := by
    rw [← Bool.not_eq_true]; exact fun hh => h ((fetch0_2 t).mp hh)
  obtain ⟨_, hix⟩ := (cfg0.win 2).index_eq_of_fetch rfl t hf
  have e : ∀ u : Fin cfg0.N, ∀ d, (dat0 V c).fetched 2 u d = iblk0 V c 2 u := fun u d => by
    unfold Dat.fetched Dat.blockOf iblk0; rw [A_eq0]; try rfl
  by_cases hne : Nonempty ((cfg0.win 2).block.Idx → Elt F (cfg0.win 2).elt)
  · obtain ⟨d⟩ := hne
    rw [← e t d, ← e _ d]
    exact ((dat0 V c).fetched_congr 2 hix.symm rfl d).symm
  · exact absurd ⟨(iblk0 V c 2 t : S5120x768.Idx → _)⟩ hne

/-- Away from the first row block of a column tile window 4's block is the point before's. -/
theorem same0_4 (c : Dev nD) (t : Fin cfg0.N) (h : ¬t.val % 24 = 0) :
    iblk0 V c 4 t = iblk0 V c 4 ⟨t.val - 1, Nat.lt_of_le_of_lt (Nat.sub_le _ _) t.isLt⟩ := by
  have hf : (cfg0.win 4).fetch t = false := by
    rw [← Bool.not_eq_true]; exact fun hh => h ((fetch0_4 t).mp hh)
  obtain ⟨_, hix⟩ := (cfg0.win 4).index_eq_of_fetch rfl t hf
  have e : ∀ u : Fin cfg0.N, ∀ d, (dat0 V c).fetched 4 u d = iblk0 V c 4 u := fun u d => by
    unfold Dat.fetched Dat.blockOf iblk0; rw [A_eq0]; try rfl
  by_cases hne : Nonempty ((cfg0.win 4).block.Idx → Elt F (cfg0.win 4).elt)
  · obtain ⟨d⟩ := hne
    rw [← e t d, ← e _ d]
    exact ((dat0 V c).fetched_congr 4 hix.symm rfl d).symm
  · exact absurd ⟨(iblk0 V c 4 t : S1x768.Idx → _)⟩ hne

theorem whatAt_same (c : Dev nD) (t : Fin cfg0.N) (h : ¬t.val % 24 = 0) :
    whatAt V c t = whatAt V c ⟨t.val - 1, Nat.lt_of_le_of_lt (Nat.sub_le _ _) t.isLt⟩ := by
  unfold whatAt; rw [same0_1 V c t h, same0_2 V c t h, same0_4 V c t h]

theorem PhiS_castSucc (c : Dev nD) (t : Fin cfg0.N) : (dat0 V c).Φ t.castSucc = PhiS V c t.val (le_of_lt t.isLt) := by
  dsimp only [dat0]; exact Pipeline.Dat.Φ_castSucc (PhiS V c) t
theorem PhiS_succ (c : Dev nD) (t : Fin cfg0.N) : (dat0 V c).Φ t.succ = PhiS V c (t.val + 1) t.isLt := by
  dsimp only [dat0]; rfl

/-- Away from a tile's first point the two accumulators' buffers hold what the point before left. -/
theorem before0_7 (c : Dev nD) (t : Fin cfg0.N) (h : ¬t.val % 24 = 0) (d) :
    (dat0 V c).before 7 t d = recAt V c (t.val - 1) (Nat.lt_of_le_of_lt (Nat.sub_le _ _) t.isLt) := by
  rw [(dat0 V c).before_out_kept 7 rfl t (by omega) (by rw [← Bool.not_eq_true]; exact fun hh => absurd ((flush0_7 _).mp hh) (by show ¬(t.val - 1) % 24 = 23; omega))
    (fun _ => rfl) (fun _ _ => rfl) d, after0_7]

/-- Window 8 is idle exactly away from a tile's first point. -/
theorem idle0_8 (t : Fin cfg0.N) : cfg0.idle 8 (cfg0.grid.coords t) = !decide (t.val % 24 = 0) := by
  show (!(k0_cond1 (grid0.coords t) == 1#1)) = _
  by_cases h : t.val % 24 = 0
  · rw [show k0_cond1 (grid0.coords t) = 1#1 from (hcond0_0 t).mpr h]; simp [h]
  · have := fun hh => h ((hcond0_0 t).mp hh)
    simp [h, show ¬k0_cond1 (grid0.coords t) = 1#1 from this]

/-- and its buffer is fresh exactly at a tile's first point. -/
theorem fresh0_8 (n : ℕ) (h : n ≤ cfg0.N) : cfg0.fresh 8 n = decide (n % 24 = 0) :=
  cfg0.fresh_tab 8 (fun n => decide (n % 24 = 0)) rfl (fun t => by
    rw [idle0_8]
    have hf := flush0_8 t
    by_cases h23 : t.val % 24 = 23
    · rw [hf.mpr h23]; simp only [Bool.true_or]; exact decide_eq_true (by omega)
    · rw [Bool.eq_false_iff.mpr fun hh => h23 (hf.mp hh), Bool.false_or]
      rw [decide_eq_false (by omega : ¬(t.val + 1) % 24 = 0)]
      cases decide (t.val % 24 = 0) <;> rfl) n h

theorem before0_8_traj (c : Dev nD) (t : Fin cfg0.N) (d) :
    (dat0 V c).before 8 t d = if cfg0.fresh 8 t.val then d else (dat0 V c).after 8 ⟨t.val - 1, Nat.lt_of_le_of_lt (Nat.sub_le _ _) t.isLt⟩ :=
  (dat0 V c).before_out_traj 8 rfl (fun _ _ => rfl) (fun t _ hi _ => by
    have h : ¬t.val % 24 = 0 := fun h0 => by rw [idle0_8, decide_eq_true h0] at hi; exact absurd hi (by decide)
    rw [after0_8, after0_8, ← same0_2 V c t h]) t.val t rfl d

theorem before0_8 (c : Dev nD) (t : Fin cfg0.N) (h : ¬t.val % 24 = 0) (d) :
    (dat0 V c).before 8 t d = k0_pay2 (regFold (iblk0 V c 2 t) 20) := by
  rw [before0_8_traj, fresh0_8 _ t.isLt.le, decide_eq_false h, if_neg Bool.false_ne_true, after0_8, ← same0_2 V c t h]

/-- At every point the regularizer's buffer can be handed back as found. -/
theorem before0_8_self (c : Dev nD) (t : Fin cfg0.N) : (dat0 V c).before 8 t ((dat0 V c).after 8 t) = (dat0 V c).after 8 t := by
  by_cases h : t.val % 24 = 0
  · rw [before0_8_traj, fresh0_8 _ t.isLt.le, decide_eq_true h, if_pos rfl]
  · rw [before0_8 V c t h, after0_8]

theorem leaves0_8 (c : Dev nD) (t : Fin cfg0.N) :
    (owns (c : Thread nD τ) (st0_8 t) fullShare ((dat0 V c).after 8 t) : sProp 𝕄) ⊢
      (match cfg0.idle 8 (cfg0.grid.coords t) with
        | true => match (cfg0.win 8).flush t with
          | false => iprop(∃ d, owns (c : Thread nD τ) ((cfg0.win 8).stage (cfg0.slots t 8)) fullShare ((dat0 V c).before 8 t d))
          | true => owns (c : Thread nD τ) ((cfg0.win 8).stage (cfg0.slots t 8)) fullShare ((dat0 V c).after 8 t)
        | false => owns (c : Thread nD τ) ((cfg0.win 8).stage (cfg0.slots t 8)) fullShare ((dat0 V c).after 8 t)) := by
  cases cfg0.idle 8 (cfg0.grid.coords t)
  · exact .rfl
  · cases (cfg0.win 8).flush t
    · dsimp only
      iintro H; iexists ((dat0 V c).after 8 t); rw [before0_8_self]; iexact H
    · exact .rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 1600000 in
/-- The body at any point, by the case the point is in. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [PhiS_succ, PhiS_castSucc,
    show (dat0 V c).owesAt () t.succ = (dat0 V c).owesAt () t.castSucc from rfl,
    after0_0, after0_1, after0_2, after0_3, after0_4, after0_5, after0_6, after0_7, after0_8]
  have hN : t.val < 480 := lt_of_lt_of_eq t.isLt (show cfg0.N = 480 from N_0)
  by_cases h0 : t.val % 24 = 0
  · rw [recAt_first V c t.val t.isLt h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := ((PhiS_any V c t.val (le_of_lt t.isLt)).trans (PhiA0_eq c).le) $$ HΦ
    icases HΦ' with ⟨⟨HS0, HR⟩, Hg⟩
    iapply ((kernelRun0_A c (grid0.coords t) _ _ _ _ _ _ _ _ _ _ _ _ _ _ _ _ _ _ _ _ ((hcond0_0 t).mpr h0) (iblk0 V c 0 t) (iblk0 V c 1 t) (iblk0 V c 2 t) (iblk0 V c 3 t) (iblk0 V c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS0]; · iexact HS0
    iintro ⟨H0, H1, H2, H3, H4, H5, H6, H7, H8, HS0⟩
    isplitl [HS0 HR Hg]
    · rw [PhiS_pos]
      isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · obtain ⟨n, hn⟩ : ∃ n, t.val = n + 1 := ⟨t.val - 1, by omega⟩
    obtain ⟨tv, tlt⟩ := t
    obtain rfl : tv = n + 1 := hn
    simp only [before0_7 V c ⟨n + 1, tlt⟩ h0, before0_8 V c ⟨n + 1, tlt⟩ h0]
    rw [recAt_next V c n tlt h0, PhiS_pos, PhiS_pos]
    rw [show whatAt V c ⟨n, tlt.le⟩ = whatAt V c ⟨n + 1, tlt⟩ from (whatAt_same V c ⟨n + 1, tlt⟩ h0).symm]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords ⟨n + 1, tlt⟩) _ _ _ _ _ _ _ _ _ _ _ _ _ _ _ _ _ _ _ _ (fun h => h0 ((hcond0_0 ⟨n + 1, tlt⟩).mp h)) (iblk0 V c 0 ⟨n + 1, tlt⟩) (iblk0 V c 1 ⟨n + 1, tlt⟩) (iblk0 V c 2 ⟨n + 1, tlt⟩) (iblk0 V c 3 ⟨n + 1, tlt⟩) (iblk0 V c 4 ⟨n + 1, tlt⟩)
      (whatAt V c ⟨n + 1, tlt⟩) (recAt V c n (Nat.lt_of_succ_lt tlt)) (k0_pay2 (regFold (iblk0 V c 2 ⟨n + 1, tlt⟩) 20))) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [H8]; · iexact H8
    isplitl [HS0]; · iexact HS0
    iintro ⟨H0, H1, H2, H3, H4, H5, H6, H7, H8, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row0 (t : Fin cfg0.N) :
    defs₀ (F := F) .tc cfg0.body (cfg0.bodyArgs t (cfg0.slots t)) = bodyAt0 t := by
  unfold defs₀; rw [Defs.onTc_tc]

/-- The library's body obligation of the forward kernel. -/
theorem body_obligation0 (c : Dev nD) : BodyObligation (dat0 (F := F) V c) (defs₀ (F := F)) Variants.none () Set.univ := fun t => by
  rw [bigSep_W0, bigSep_W0, defs₀_row0]
  refine triple_restated (sound_body0 V c t) rfl .rfl fun _ => ?_
  unfold bodyPost0
  iintro ⟨HΦ, Ho, H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (leaves0_8 V c t); iexact H8

end Cert.KernelIdeal.Hand

end
-- ==== Proof.Bwd.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.ValueIdxCore
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F] [Named F]

local notation "𝕄" => MT nD τ sig Unit (Elt F) ℕ (UR sig nD τ) ℕ

/-! # The backward kernel over its grid

Each point multiplies one row tile of the transposed activations with one column tile of the residual, scales the product by
the derivative of the weights and adds the regularizer's derivative. Nothing is carried from point to point. -/

variable (V : (c : Dev nD) → (b : Ref sig .tc) → Buf (Elt F) ((c : Thread nD τ).loc b))

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S512x12288 := Rect.unit (s := S512x12288) ![0, 0] S512x12288.size inb_S512x12288_S512x12288_0_0
abbrev r1_1 : Rect S12288x512 := Rect.unit (s := S12288x512) ![0, 0] S12288x512.size inb_S12288x512_S12288x512_0_0
abbrev r1_2 : Rect S512x512 := Rect.unit (s := S512x512) ![0, 0] S512x512.size inb_S512x512_S512x512_0_0
abbrev r1_3 : Rect S1x512 := Rect.unit (s := S1x512) ![0, 0] S1x512.size inb_S1x512_S1x512_0_0

/-- What the body leaves in the gradient's buffer, from the input blocks. -/
def out1_5 (x0 : Vec F S512x12288 .bf16) (x1 : Vec F S12288x512 .bf16) (x2 : Vec F S512x512 .i8) (x3 : Vec F S1x512 .f32) (x4 : Vec F S512x512 .f32) : Vec F S512x512 .f32 :=
  View.canon [⟨r1_2, k1_pay1 (k1_pay2 (View.ld x0 r1_0) (View.ld x1 r1_1)) (k1_pay5 (View.ld x4 r1_2)) (k1_pay6 (View.ld x4 r1_2) (View.ld x2 r1_2)) (k1_pay7 (View.ld x4 r1_2)) (k1_pay8 (View.ld x4 r1_2)) (View.ld x3 r1_3)⟩]

theorem cover1_5 (p0 : Vec F S512x512 .f32) (y : S512x512.Idx) :
    ∃ pc ∈ ([⟨r1_2, p0⟩] : List (View.Piece (Elt F) S512x512 .f32)), y ∈ pc.1.set :=
  View.cover_of_tiled [⟨r1_2, p0⟩] S512x512.size (by rfl) y

set_option maxHeartbeats 1000000 in
theorem sound_kernel1 (c : Dev nD) (E : Set ℕ) (i : grid1.Coords) (arg2 : Memref sig .tc .vmem S512x12288 .bf16) (harg2 : arg2.IsWhole) (arg3 : Memref sig .tc .vmem S12288x512 .bf16) (harg3 : arg3.IsWhole) (arg4 : Memref sig .tc .vmem S512x512 .i8) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole)
    (x0 : Vec F S512x12288 .bf16) (x1 : Vec F S12288x512 .bf16) (x2 : Vec F S512x512 .i8) (x3 : Vec F S1x512 .f32) (x4 : Vec F S512x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2 x3 x4)) -∗ K ⟨⟩))
      ⊢ wp frame (wpE (defs₀ (F := F)) Variants.none c none) E (cc1_bwd i arg2 harg2 arg3 harg3 arg4 harg4 arg5 harg5 arg6 harg6 arg7 harg7) K := by
  simp only [cc1_bwd_eq_skeleton]; unfold cc1_bwd_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of the backward kernel. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row1 (t : Fin cfg1.N) :
    defs₀ (F := F) .tc cfg1.body (cfg1.bodyArgs t (cfg1.slots t)) = bodyAt1 t := by
  unfold defs₀; rw [Defs.onTc_tc]

/-- The library's body obligation of the backward kernel. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.Run.lean ====
module

public import proofs.«01_k».proof.Proof.FwdDat
public import proofs.«01_k».proof.Proof.Bwd
public import proofs.«01_k».proof.Proof.Gen.KernelIdeal.Regions
public import Idealize.ShloMosaic.Lib.Pipeline.RegionArraysS
public import Idealize.ShloMosaic.Lib.Pipeline.FrameTail
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F] [Named F]

local notation "𝕄" => MT nD τ sig Unit (Elt F) ℕ (UR sig nD τ) ℕ

/-! # The whole program's run

Reshapes of the arguments, the forward kernel, the backward kernel, reshapes of the results: what every buffer holds after
each, and the run that reaches the last of these contents from any memory. -/

open Idealize.ShloMosaic.Pipeline (Seg HostSeg RegionSeg afterRegion afterRegion_arr afterRegion_keeps afterRegion_of_not_arr)

variable (m : (ℓ : Loc nD τ sig) → Buf (Elt F) ℓ)

/-- The buffers before the forward kernel, -/
def W1 (c : Dev nD) : Valuation τ sig (Elt F) := StableHlo.after hostOps0 (V0 m c)
def E1 (c : Dev nD) (b : Ref sig .tc) : Buf (Elt F) ((c : Thread nD τ).loc b) := W1 m c (Proc.devRef .tc b)
/-- between the two kernels, -/
def W2 (c : Dev nD) : Valuation τ sig (Elt F) := afterRegion (dat0 (E1 m) c) (W1 m c)
def E2 (c : Dev nD) (b : Ref sig .tc) : Buf (Elt F) ((c : Thread nD τ).loc b) := W2 m c (Proc.devRef .tc b)
/-- after the backward kernel, -/
def W3 (c : Dev nD) : Valuation τ sig (Elt F) := afterRegion (dat1 (E2 m) c) (W2 m c)
/-- and at the end. -/
def W4 (c : Dev nD) : Valuation τ sig (Elt F) := StableHlo.after hostOps2 (W3 m c)

theorem W2_arr (c : Dev nD) (w : Fin cfg0.W) : W2 m c (Proc.devRef .tc (Pipeline.arrRef spec0 w)) = (dat0 (E1 m) c).arrAt w cfg0.N :=
  afterRegion_arr (dat0 (E1 m) c) (W1 m c) launch0.win.arr_inj w
theorem W3_arr (c : Dev nD) (w : Fin cfg1.W) : W3 m c (Proc.devRef .tc (Pipeline.arrRef spec1 w)) = (dat1 (E2 m) c).arrAt w cfg1.N :=
  afterRegion_arr (dat1 (E2 m) c) (W2 m c) launch1.win.arr_inj w

theorem W2_keeps (c : Dev nD) (r : Ref sig .tc) (h : ∀ w, Pipeline.arrRef spec0 w = r → (cfg0.win w).isOut = false) :
    W2 m c (Proc.devRef .tc r) = W1 m c (Proc.devRef .tc r) :=
  afterRegion_keeps (dat0 (E1 m) c) (W1 m c) launch0.win.arr_inj (fun w => A_eq0 (E1 m) c w) r h
theorem W3_keeps (c : Dev nD) (r : Ref sig .tc) (h : ∀ w, Pipeline.arrRef spec1 w = r → (cfg1.win w).isOut = false) :
    W3 m c (Proc.devRef .tc r) = W2 m c (Proc.devRef .tc r) :=
  afterRegion_keeps (dat1 (E2 m) c) (W2 m c) launch1.win.arr_inj (fun w => A_eq1 (E2 m) c w) r h
theorem W1_keeps (c : Dev nD) (r : Ref sig .tc) (h : r ∉ hostOps0_W) : W1 m c (Proc.devRef .tc r) = m ((c : Thread nD τ).loc r) :=
  (StableHlo.after_of_writes_sub hostOps0 _ hostOps0_writes h).trans rfl
theorem W4_keeps (c : Dev nD) (r : Ref sig .tc) (h : r ∉ hostOps2_W) : W4 m c (Proc.devRef .tc r) = W3 m c (Proc.devRef .tc r) :=
  StableHlo.after_of_writes_sub hostOps2 _ hostOps2_writes h

/-- A buffer that nothing writes ends as launched. -/
theorem W4_arg (c : Dev nD) (r : Ref sig .tc) (h4 : r ∉ hostOps2_W) (h1 : r ∉ hostOps0_W)
    (h3 : ∀ w, Pipeline.arrRef spec1 w = r → (cfg1.win w).isOut = false) (h2 : ∀ w, Pipeline.arrRef spec0 w = r → (cfg0.win w).isOut = false) :
    W4 m c (Proc.devRef .tc r) = m ((c : Thread nD τ).loc r) :=
  (W4_keeps m c r h4).trans ((W3_keeps m c r h3).trans ((W2_keeps m c r h2).trans (W1_keeps m c r h1)))

/-- The two pipelines' proof data. -/
def pdats : (p : Fin 2) → (c : Dev nD) → Dat τ (Elt F) Unit ℕ (UR sig nD τ) ℕ (cfgs p) c
  | ⟨0, _⟩ => fun c => dat0 (E1 m) c
  | ⟨1, _⟩ => fun c => dat1 (E2 m) c
  | ⟨_ + 2, h⟩ => absurd h (Nat.not_lt.2 (Nat.le_add_left _ _))

/-- One level, at every TensorCore semaphore. -/
def Lset : GSem nD τ sig → Finset Unit := fun g => if g.1.2 = .tc then {()} else ∅
def lvl : GSem nD τ sig → Unit → ℕ := fun _ _ => 0

theorem Phi_first (c : Dev nD) : iprop(Pipeline.scopedRest spec0 c ∗ ∃ r, prngReg c r) ⊢ (dat0 (F := F) (E1 m) c).Φ 0 := by
  show _ ⊢ Pipeline.ΦA spec0 c
  exact .rfl
theorem Phi_last (c : Dev nD) : (dat0 (F := F) (E1 m) c).Φ (Fin.last cfg0.N) ⊢ iprop(Pipeline.scopedRest spec0 c ∗ ∃ r, prngReg c r) := by
  have h : (dat0 (F := F) (E1 m) c).Φ (Fin.last cfg0.N) = PhiS (E1 m) c cfg0.N le_rfl := by dsimp only [dat0]; rfl
  rw [h]; exact PhiS_any (E1 m) c cfg0.N le_rfl

/-- What rides beside the buffers. -/
def ride (c : Dev nD) : sProp 𝕄 := iprop((∃ Wd, owes (c : Thread nD τ) (0 : CellTallies nD τ sig Unit) Wd) ∗ (∃ r, prngReg c r) ∗ emp)

set_option backward.isDefEq.respectTransparency.types false in
theorem cut (p : Fin 2) : Pipeline.LevelCut (pcfgs (F := F)) adm () Lset lvl p (fun _ => 0) fun _ => 0 :=
  ⟨fun c _ _ => by simp [Lset], fun _ _ _ => le_refl _, fun c g i h => absurd h (by simp)⟩

theorem arrs0_sub : Pipeline.arrRefs (τ := τ) spec0 ⊆ Pipeline.ucRefs τ sig := Pipeline.arrRefs_sub_ucRefs spec0 (by decide)
theorem arrs1_sub : Pipeline.arrRefs (τ := τ) spec1 ⊆ Pipeline.ucRefs τ sig := Pipeline.arrRefs_sub_ucRefs spec1 (by decide)

set_option backward.isDefEq.respectTransparency.types false in
/-- The forward kernel's region, -/
def reg0 : RegionSeg (pcfgs (F := F)) adm (pdats m) () defs₀ Variants.none Lset lvl 0 :=
  RegionSeg.ofHeldIn (pcfgs (F := F)) adm (pdats m) () defs₀ Variants.none Lset lvl 0 (fun _ => 0) (Pipeline.ucRefs τ sig)
    (fun c => iprop(∃ r, prngReg c r)) (fun c => iprop(∃ r, prngReg c r)) launch0.toP rfl
    (fun c => (body_obligation0 (E1 m) c).loose) (fun _ _ => rfl) (fun _ => rfl)
    (fun c => (dat0 (E1 m) c).share_full fun _ => rfl) (Phi_first m) (Phi_last m) (fun _ => 0) (cut 0) (fun _ => iprop(emp))
    (W1 m) (fun c w => A_eq0 (E1 m) c w)

set_option backward.isDefEq.respectTransparency.types false in
/-- and the backward kernel's. -/
def reg1 : RegionSeg (pcfgs (F := F)) adm (pdats m) () defs₀ Variants.none Lset lvl 1 :=
  RegionSeg.ofHeldIn (pcfgs (F := F)) adm (pdats m) () defs₀ Variants.none Lset lvl 1 (fun _ => 0) (Pipeline.ucRefs τ sig)
    (fun c => iprop(∃ r, prngReg c r)) (fun c => iprop(∃ r, prngReg c r)) launch1.toP rfl
    (fun c => (body_obligation1 (E2 m) c).loose) (fun _ _ => rfl) (fun _ => rfl)
    (fun c => (dat1 (E2 m) c).share_full fun _ => rfl) (fun _ => .rfl) (fun _ => .rfl) (fun _ => 0) (cut 1) (fun _ => iprop(emp))
    (W2 m) (fun c w => A_eq1 (E2 m) c w)

set_option backward.isDefEq.respectTransparency.types false in
theorem reg0_pre (c : Dev nD) : iprop(StableHlo.held (c : Thread nD τ) (Pipeline.ucRefs τ sig) (W1 m c) ∗ ride (F := F) c) ⊢ (reg0 m).pre c := by
  show _ ⊢ iprop(StableHlo.held (c : Thread nD τ) (Pipeline.arrRefs (τ := τ) spec0) (W1 m c) ∗ (∃ r, prngReg c r)
    ∗ (StableHlo.held (c : Thread nD τ) (Pipeline.ucRefs τ sig \ (Pipeline.arrRefs (τ := τ) spec0)) (W1 m c) ∗ emp) ∗ ∃ Wd, owes (c : Thread nD τ) (0 : CellTallies nD τ sig Unit) Wd)
  unfold ride
  rw [StableHlo.held_sub_split (c : Thread nD τ) arrs0_sub (W1 m c)]
  iintro ⟨⟨Ha, Hu⟩, HO, HX, HR⟩
  isplitl [Ha]; · iexact Ha
  isplitl [HX]; · iexact HX
  isplitl [Hu HR]
  · isplitl [Hu]; · iexact Hu
    iexact HR
  iexact HO
set_option backward.isDefEq.respectTransparency.types false in
theorem reg0_post (c : Dev nD) : (reg0 m).post c ⊢ iprop(StableHlo.held (c : Thread nD τ) (Pipeline.ucRefs τ sig) (W2 m c) ∗ ride (F := F) c) := by
  show iprop(StableHlo.held (c : Thread nD τ) (Pipeline.arrRefs (τ := τ) spec0) (W2 m c) ∗ (∃ r, prngReg c r)
    ∗ (StableHlo.held (c : Thread nD τ) (Pipeline.ucRefs τ sig \ (Pipeline.arrRefs (τ := τ) spec0)) (W1 m c) ∗ emp) ∗ ∃ Wd, owes (c : Thread nD τ) (0 : CellTallies nD τ sig Unit) Wd) ⊢ _
  unfold ride
  rw [StableHlo.held_sub_split (c : Thread nD τ) arrs0_sub (W2 m c),
    StableHlo.held_congr (c : Thread nD τ) (S := Pipeline.ucRefs τ sig \ (Pipeline.arrRefs (τ := τ) spec0)) (V := W2 m c) (V' := W1 m c) (Pipeline.afterRegion_off (dat0 (E1 m) c) (W1 m c) (Pipeline.ucRefs τ sig))]
  iintro ⟨Ha, HY, ⟨Hu, HR⟩, HO⟩
  isplitl [Ha Hu]
  · isplitl [Ha]; · iexact Ha
    iexact Hu
  isplitl [HO]; · iexact HO
  isplitl [HY]; · iexact HY
  iexact HR
set_option backward.isDefEq.respectTransparency.types false in
theorem reg1_pre (c : Dev nD) : iprop(StableHlo.held (c : Thread nD τ) (Pipeline.ucRefs τ sig) (W2 m c) ∗ ride (F := F) c) ⊢ (reg1 m).pre c := by
  show _ ⊢ iprop(StableHlo.held (c : Thread nD τ) (Pipeline.arrRefs (τ := τ) spec1) (W2 m c) ∗ (∃ r, prngReg c r)
    ∗ (StableHlo.held (c : Thread nD τ) (Pipeline.ucRefs τ sig \ (Pipeline.arrRefs (τ := τ) spec1)) (W2 m c) ∗ emp) ∗ ∃ Wd, owes (c : Thread nD τ) (0 : CellTallies nD τ sig Unit) Wd)
  unfold ride
  rw [StableHlo.held_sub_split (c : Thread nD τ) arrs1_sub (W2 m c)]
  iintro ⟨⟨Ha, Hu⟩, HO, HX, HR⟩
  isplitl [Ha]; · iexact Ha
  isplitl [HX]; · iexact HX
  isplitl [Hu HR]
  · isplitl [Hu]; · iexact Hu
    iexact HR
  iexact HO
set_option backward.isDefEq.respectTransparency.types false in
theorem reg1_post (c : Dev nD) : (reg1 m).post c ⊢ iprop(StableHlo.held (c : Thread nD τ) (Pipeline.ucRefs τ sig) (W3 m c) ∗ ride (F := F) c) := by
  show iprop(StableHlo.held (c : Thread nD τ) (Pipeline.arrRefs (τ := τ) spec1) (W3 m c) ∗ (∃ r, prngReg c r)
    ∗ (StableHlo.held (c : Thread nD τ) (Pipeline.ucRefs τ sig \ (Pipeline.arrRefs (τ := τ) spec1)) (W2 m c) ∗ emp) ∗ ∃ Wd, owes (c : Thread nD τ) (0 : CellTallies nD τ sig Unit) Wd) ⊢ _
  unfold ride
  rw [StableHlo.held_sub_split (c : Thread nD τ) arrs1_sub (W3 m c),
    StableHlo.held_congr (c : Thread nD τ) (S := Pipeline.ucRefs τ sig \ (Pipeline.arrRefs (τ := τ) spec1)) (V := W3 m c) (V' := W2 m c) (Pipeline.afterRegion_off (dat1 (E2 m) c) (W2 m c) (Pipeline.ucRefs τ sig))]
  iintro ⟨Ha, HY, ⟨Hu, HR⟩, HO⟩
  isplitl [Ha Hu]
  · isplitl [Ha]; · iexact Ha
    iexact Hu
  isplitl [HO]; · iexact HO
  isplitl [HY]; · iexact HY
  iexact HR

def host0 : HostSeg (Ix := Unit) (Name := ℕ) (U := UR sig nD τ) (Lvl := ℕ) (pcfgs (F := F)) defs₀ Variants.none Lset lvl :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (ride (F := F))
def host3 : HostSeg (Ix := Unit) (Name := ℕ) (U := UR sig nD τ) (Lvl := ℕ) (pcfgs (F := F)) defs₀ Variants.none Lset lvl :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) (ride (F := F))

set_option backward.isDefEq.respectTransparency.types false in
set_option maxHeartbeats 800000 in
/-- From any memory with zero counters every weakly fair execution of the program ends with every unscoped buffer at `W4` and
    every semaphore counter at zero. -/
theorem run (ρ : Dev nD → PrngReg) :
    θ_run defs (onTc (τ := τ) (main (F := F))) ⟨m, fun _ => 0, ρ⟩ (fun r => (∀ (c : Dev nD) (b : Ref sig .tc), b.isScoped = false →
      r.2.mem ((c : Thread nD τ).loc b) = W4 m c (Proc.devRef .tc b)) ∧ r.2.sem = fun _ => 0) := by
  refine Pipeline.θ_run_regions_kit_dev_sems (pcfgs (F := F)) adm (pdats m) () cellOf_inj emb₁ defs₀ Variants.none Lset lvl m ρ main
    (fun _ => [.host (host0 m), .region (reg0 m), .region (reg1 m), .host (host3 m)])
    (fun c Q => by
      rewrite [main_chain c, Seg.run_eq_chain]
      dsimp (config := { failIfUnchanged := false }) only
      exact .rfl)
    (fun c => by simp only [Seg.pipes_host, Seg.pipes_region, Seg.pipes_nil]; decide)
    (O₀ := 0) (hL := fun g h => if_neg h)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ ride (F := F) c))
    (Tₙ := fun c => StableHlo.held (c : Thread nD τ) (Pipeline.ucRefs τ sig) (W4 m c))
    (hch := fun c => ⟨.rfl, reg0_pre m c, (reg0_post m c).trans (reg1_pre m c), reg1_post m c,
      (show iprop(StableHlo.held (c : Thread nD τ) (Pipeline.ucRefs τ sig) (W4 m c) ∗ ride (F := F) c) ⊢ (_ : sProp 𝕄) from by
        unfold ride
        iintro ⟨Hh, HO, -⟩
        isplitl [Hh] <;> iassumption)⟩)
    (hinit := by
      refine Pipeline.initEach Lset lvl fun c => ?_
      rw [show unscopedBufs c (fun b => m ((c : Thread nD τ).loc b)) = StableHlo.held (c : Thread nD τ) (Pipeline.ucRefs τ sig) (V0 m c)
          from Pipeline.unscopedBufs_held (Ix := Unit) (Name := ℕ) (U := UR sig nD τ) (Lvl := ℕ) c (V0 m c)]
      unfold ride
      iintro ⟨⟨Hh, -, HO, -, Hp, -⟩, -⟩
      imodintro
      isplitl [Hh]; · iexact Hh
      isplitl [HO]; · iexists _; iexact HO
      isplitl [Hp]; · iexists _; iexact Hp
      iempintro)
    (QY := fun c s => ∀ b ∈ Pipeline.ucRefs τ sig, s.mem ((c : Thread nD τ).1, b) = W4 m c b)
    (hfin := fun c s' => by
      unfold StableHlo.held
      iintro ⟨Hh, HSI⟩
      ihave Hr := (pointsTo_read_all (Pipeline.ucRefs τ sig) (fun b => ((c : Thread nD τ).1, b)) (W4 m c) s') $$ [Hh HSI]
      · isplitl [Hh] <;> iassumption
      imodintro; iexact Hr)
    (hQ := fun _ h hz => ⟨fun c b hb => h c (Proc.devRef .tc b) (Pipeline.devRef_mem_ucRefs hb),
      funext fun g => hz g (.inr (regions_no_unscoped g.2))⟩)

/-- The frame: the arguments end as launched. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1 c main_arg0 rfl).trans (W4_arg m c main_arg0 (by decide) (by decide) (by decide) (by decide)),
     (h.1 c main_arg1 rfl).trans (W4_arg m c main_arg1 (by decide) (by decide) (by decide) (by decide)),
     (h.1 c main_arg2 rfl).trans (W4_arg m c main_arg2 (by decide) (by decide) (by decide) (by decide)),
     (h.1 c main_arg3 rfl).trans (W4_arg m c main_arg3 (by decide) (by decide) (by decide) (by decide)),
     (h.1 c main_arg4 rfl).trans (W4_arg m c main_arg4 (by decide) (by decide) (by decide) (by decide))⟩, h.2⟩) (run m ρ)

end Cert.KernelIdeal.Hand

end
-- ==== Proof.ChipFwdTrip.lean ====
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.Value
public import Idealize.ShloMosaic.Lib.WritesUnit
public import Idealize.ShloMosaic.Lib.ValueIdxCore
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

/-! # What the weight loop leaves

The forward kernel, at the first row block of a column tile, dequantizes the tile's weights in twenty chunks of 256 rows
and adds up the regularizer's column sums on the way. This module names what the loop leaves: `whatOf` (the whole tile of
dequantized weights) and `regFold` (the running column sums), and proves that the loop's recorded state is these. -/

/-- Rows `256 k … 256 k + 255` of a weight tile. -/
def rowsOf {α : Type} (x : S5120x768.Idx → α) (k : ℕ) : S256x768.Idx → α :=
  fun y => x (ix2 ⟨(256 * k + (y 0).val) % 5120, Nat.mod_lt _ (by decide)⟩ (y 1))

/-- The dequantized weights of a tile: each row from the chunk of 256 rows it lies in. -/
def whatOf (x1 : Vec F S5120x768 .i8) (x2 : Vec F S5120x768 .f32) (x4 : Vec F S1x768 .f32) : Vec F S5120x768 .bf16 :=
  fun y => k0_pay9 (rowsOf x2 ((y 0).val / 256)) (rowsOf x1 ((y 0).val / 256)) x4
    (ix2 ⟨(y 0).val % 256, Nat.mod_lt _ (by decide)⟩ (y 1))

/-- The regularizer's column sums after the first `n` chunks. -/
def regFold (x2 : Vec F S5120x768 .f32) : ℕ → FVec F S1x768 .f32
  | 0 => k0_pay1
  | n + 1 => k0_pay10 (regFold x2 n) (rowsOf x2 n)

/-- A load of the loop's rectangle reads the trip's chunk of rows. -/
theorem ld_rows {e : EltTy} (x : Vec F S5120x768 e) (k : Fin k0_t1_loop.trips) (inb) :
    View.ld (Val := Elt F) (e' := e) x (Rect.unit (s := S5120x768) (k0_off1 k) S256x768.size inb) = rowsOf x k.val := by
  have hk : k.val < 20 := Nat.lt_of_lt_of_le k.isLt k0_t1_abs.2.1
  funext y
  have hy : (y (0 : Fin 2)).val < 256 := (y (0 : Fin 2)).isLt
  show x _ = x _
  congr 1
  funext a
  apply Fin.ext
  have e := congrFun (k0_off1_eq k) a
  match a with
  | ⟨0, _⟩ =>
    show k0_off1 k 0 + 1 * (y (0 : Fin 2)).val = (256 * k.val + (y (0 : Fin 2)).val) % 5120
    rw [show k0_off1 k 0 = 256 * k.val from e, Nat.mod_eq_of_lt (by omega), Nat.one_mul]
  | ⟨1, _⟩ =>
    show k0_off1 k 1 + 1 * (y (1 : Fin 2)).val = (y (1 : Fin 2)).val
    rw [show k0_off1 k 1 = 0 from e]; omega

theorem hz2 : (![0, 0] : Fin 2 → Nat) = fun _ => 0 := funext fun a => by fin_cases a <;> rfl

section
variable (c : Dev nD) (i : grid0.Coords) (arg2 : Memref sig .tc .vmem S512x5120 .bf16) (harg2 : arg2.IsWhole) (arg3 : Memref sig .tc .vmem S5120x768 .i8) (harg3 : arg3.IsWhole) (arg4 : Memref sig .tc .vmem S5120x768 .f32) (harg4 : arg4.IsWhole) (arg5 : Memref sig .tc .vmem S512x768 .bf16) (harg5 : arg5.IsWhole) (arg6 : Memref sig .tc .vmem S1x768 .f32) (harg6 : arg6.IsWhole) (arg7 : Memref sig .tc .vmem S512x768 .bf16) (harg7 : arg7.IsWhole) (arg8 : Memref sig .tc .vmem S256x512 .bf16) (harg8 : arg8.IsWhole) (arg9 : Memref sig .tc .vmem S1x768 .f32) (harg9 : arg9.IsWhole) (arg10 : Memref sig .tc .vmem S1x768 .f32) (harg10 : arg10.IsWhole) (arg11 : Memref sig .tc .vmem S5120x768 .bf16) (harg11 : arg11.IsWhole) (k0_h1 : k0_cond1 i = 1#1)
  (x1 : Vec F S5120x768 .i8) (x2 : Vec F S5120x768 .f32) (x4 : Vec F S1x768 .f32)

/-- What one trip yields: the column sums with the trip's chunk added. -/
theorem tripR_eq (k : Fin k0_t1_loop.trips) (acc : FVec F S1x768 .f32) :
    tripR_k0_t1 (F := F) Variants.none c none i arg2 harg2 arg3 harg3 arg4 harg4 arg5 harg5 arg6 harg6 arg7 harg7 arg8 harg8 arg9 harg9 arg10 harg10 arg11 harg11 k0_h1 (harg3.unread x1) (harg4.unread x2) (harg6.unread x4) k acc
      = k0_pay10 acc (rowsOf x2 k.val) := by
  unfold tripR_k0_t1 trip_k0_t1
  show k0_pay10 acc (arg4.view.readAt (Elt F) (Rect.unit (s := S5120x768) (k0_off1 k) S256x768.size (k0_off1_inb i k k0_h1)) (harg4.unread x2)) = _
  rw [View.readAt_eq_ld, harg4.read_unread, ld_rows]

/-- What one trip stores: the trip's chunk of dequantized weights, at its rows. -/
theorem tripL_eq (k : Fin k0_t1_loop.trips) (acc : FVec F S1x768 .f32) :
    tripL_k0_t1 (F := F) Variants.none c none i arg2 harg2 arg3 harg3 arg4 harg4 arg5 harg5 arg6 harg6 arg7 harg7 arg8 harg8 arg9 harg9 arg10 harg10 arg11 harg11 k0_h1 (harg3.unread x1) (harg4.unread x2) (harg6.unread x4) k acc
      = [⟨Rect.unit (s := S5120x768) (k0_off1 k) S256x768.size (k0_off1_inb i k k0_h1), k0_pay9 (rowsOf x2 k.val) (rowsOf x1 k.val) x4⟩] := by
  unfold tripL_k0_t1 trip_k0_t1
  show [(⟨Rect.unit (s := S5120x768) (k0_off1 k) S256x768.size (k0_off1_inb i k k0_h1), k0_pay9
      (arg4.view.readAt (Elt F) (Rect.unit (s := S5120x768) (k0_off1 k) S256x768.size (k0_off1_inb i k k0_h1)) (harg4.unread x2))
      (arg3.view.readAt (Elt F) (Rect.unit (s := S5120x768) (k0_off1 k) S256x768.size (k0_off1_inb i k k0_h1)) (harg3.unread x1))
      (arg6.view.readAt (Elt F) (Rect.unit (s := S1x768) ![0, 0] S1x768.size inb_S1x768_S1x768_0_0) (harg6.unread x4))⟩ : View.Piece (Elt F) S5120x768 .bf16)] = _
  rw [View.readAt_eq_ld, View.readAt_eq_ld, View.readAt_eq_ld, harg4.read_unread, harg3.read_unread, harg6.read_unread, ld_rows, ld_rows,
    View.ld_unit_zero hz2]

/-- The loop's state after `n` chunks: the column sums `regFold`, and rows below `256 n` holding the dequantized weights. -/
theorem st_eq (f : BufTy.Contents (Elt F) arg11.view.ty) : ∀ n : ℕ, n ≤ 20 →
    (st_k0_t1 (F := F) Variants.none c none i arg2 harg2 arg3 harg3 arg4 harg4 arg5 harg5 arg6 harg6 arg7 harg7 arg8 harg8 arg9 harg9 arg10 harg10 arg11 harg11 k0_h1 (harg3.unread x1) (harg4.unread x2) (harg6.unread x4) (k0_pay1 (F := F)) n).1 = regFold x2 n
    ∧ ∀ y : S5120x768.Idx, (y 0).val < 256 * n →
      arg11.view.read (Elt F) (arg11.view.writes (Elt F) f (st_k0_t1 (F := F) Variants.none c none i arg2 harg2 arg3 harg3 arg4 harg4 arg5 harg5 arg6 harg6 arg7 harg7 arg8 harg8 arg9 harg9 arg10 harg10 arg11 harg11 k0_h1 (harg3.unread x1) (harg4.unread x2) (harg6.unread x4) (k0_pay1 (F := F)) n).2) y
        = whatOf x1 x2 x4 y := by
  have htr : k0_t1_loop.trips = 20 := by decide
  intro n
  induction n with
  | zero => exact fun _ => ⟨rfl, fun y hy => absurd hy (by omega)⟩
  | succ n ih =>
    intro hn
    obtain ⟨ih1, ih2⟩ := ih (by omega)
    have hs := st_k0_t1_succ (F := F) Variants.none c none i arg2 harg2 arg3 harg3 arg4 harg4 arg5 harg5 arg6 harg6 arg7 harg7 arg8 harg8 arg9 harg9 arg10 harg10 arg11 harg11 k0_h1 (harg3.unread x1) (harg4.unread x2) (harg6.unread x4) (k0_pay1 (F := F)) ⟨n, by omega⟩
    rw [tripR_eq, tripL_eq] at hs
    refine ⟨?_, fun y hy => ?_⟩
    · rw [hs]; show k0_pay10 _ _ = _; rw [ih1]; rfl
    · rw [hs]
      show arg11.view.read (Elt F) (arg11.view.writes (Elt F) f (_ :: _)) y = _
      by_cases h : (y 0).val < 256 * n
      · rw [View.read_writes_cons_rows_of_not_mem (d := ![5120, 768]) arg11.view f (k0_off1_inb i ⟨n, by omega⟩ k0_h1) _ _ y (k0_off1_eq ⟨n, by omega⟩) (W := 256) rfl (Or.inl h)]
        exact ih2 y h
      · have hd : (y 0).val / 256 = n := by omega
        have hx : 256 * n + (y 0).val % 256 = (y 0).val := by omega
        rw [View.read_writes_cons_rows_of_mem (d := ![5120, 768]) arg11.view f (k0_off1_inb i ⟨n, by omega⟩ k0_h1) _ _ y (ix2 ⟨(y 0).val % 256, Nat.mod_lt _ (by decide)⟩ (y 1)) (k0_off1_eq ⟨n, by omega⟩) hx.symm rfl]
        unfold whatOf
        rw [hd]

/-- After the whole loop the scratch reads `whatOf`, whatever it held. -/
theorem st_read (f : BufTy.Contents (Elt F) arg11.view.ty) :
    arg11.view.read (Elt F) (arg11.view.writes (Elt F) f (st_k0_t1 (F := F) Variants.none c none i arg2 harg2 arg3 harg3 arg4 harg4 arg5 harg5 arg6 harg6 arg7 harg7 arg8 harg8 arg9 harg9 arg10 harg10 arg11 harg11 k0_h1 (harg3.unread x1) (harg4.unread x2) (harg6.unread x4) (k0_pay1 (F := F)) k0_t1_loop.trips).2)
      = whatOf x1 x2 x4 := by
  have htr : k0_t1_loop.trips = 20 := by decide
  funext y
  have hy : (y (0 : Fin 2)).val < 5120 := (y (0 : Fin 2)).isLt
  rw [htr]
  exact (st_eq c i arg2 harg2 arg3 harg3 arg4 harg4 arg5 harg5 arg6 harg6 arg7 harg7 arg8 harg8 arg9 harg9 arg10 harg10 arg11 harg11 k0_h1 x1 x2 x4 f 20 le_rfl).2 y (by omega)

/-- After the whole loop the carried column sums are `regFold` of the tile. -/
theorem st_acc :
    (st_k0_t1 (F := F) Variants.none c none i arg2 harg2 arg3 harg3 arg4 harg4 arg5 harg5 arg6 harg6 arg7 harg7 arg8 harg8 arg9 harg9 arg10 harg10 arg11 harg11 k0_h1 (harg3.unread x1) (harg4.unread x2) (harg6.unread x4) (k0_pay1 (F := F)) k0_t1_loop.trips).1
      = regFold x2 20 := by
  have htr : k0_t1_loop.trips = 20 := by decide
  rw [htr]
  exact (st_eq c i arg2 harg2 arg3 harg3 arg4 harg4 arg5 harg5 arg6 harg6 arg7 harg7 arg8 harg8 arg9 harg9 arg10 harg10 arg11 harg11 k0_h1 x1 x2 x4 (harg11.unread (whatOf x1 x2 x4)) 20 le_rfl).1
end

end Cert.Kernel.Hand

end
-- ==== Proof.ChipFwdBody.lean ====
module

public import proofs.«01_k».proof.Proof.ChipFwdTrip

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

/-! # The forward kernel's body, run once

Two cases: the first row block of a column tile (the loop runs and the two column accumulators are started) and every
other (the scratch and the accumulators are carried). Each states what every buffer holds after the body. -/

/-- Columns `256 q … 256 q + 255` of a row block of the activations. -/
def colsOf {α : Type} (x : S512x5120.Idx → α) (q : ℕ) : S512x256.Idx → α :=
  fun y => x (ix2 (y 0) ⟨(256 * q + (y 1).val) % 5120, Nat.mod_lt _ (by decide)⟩)

/-- A load of the transposed chunk's rectangle reads those columns. -/
theorem ld_cols {e : EltTy} (x : Vec F S512x5120 e) (i : grid0.Coords) (inb) :
    View.ld (Val := Elt F) (e' := e) x (Rect.unit (s := S512x5120) (k0_off2 i) S512x256.size inb) = colsOf x (i 0).val := by
  have hk : (i (0 : Fin 2)).val < 20 := (i (0 : Fin 2)).isLt
  funext y
  have hy : (y (1 : Fin 2)).val < 256 := (y (1 : Fin 2)).isLt
  show x _ = x _
  congr 1
  funext a
  apply Fin.ext
  have e := congrFun (k0_off2_eq i) a
  match a with
  | ⟨0, _⟩ =>
    show k0_off2 i 0 + 1 * (y (0 : Fin 2)).val = (y (0 : Fin 2)).val
    rw [show k0_off2 i 0 = 0 from e]; omega
  | ⟨1, _⟩ =>
    show k0_off2 i 1 + 1 * (y (1 : Fin 2)).val = (256 * (i (0 : Fin 2)).val + (y (1 : Fin 2)).val) % 5120
    rw [show k0_off2 i 1 = 256 * (i (0 : Fin 2)).val from e, Nat.mod_eq_of_lt (by omega), Nat.one_mul]

/-- A whole store, last, leaves its payload. -/
theorem read_writes_whole {S : Shape} {κ : Kind} {sp : Space} {e : EltTy} (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

/-- A load of a whole buffer held at `x` reads `x`. -/
theorem readAt_whole {S : Shape} {e : EltTy} {sp : Space} (mr : Memref sig .tc sp S e) (h : mr.IsWhole) {off : Fin S.rank → Nat} (h0 : off = fun _ => 0)
    (inb : ∀ a, off a + S.size a ≤ S.size a) (x : Vec F S e) :
    mr.view.readAt (Elt F) (Rect.unit off S.size inb).toLoadRect (h.unread x) = x := by
  rw [View.readAt_eq_ld, h.read_unread, View.ld_unit_zero h0]

/-- A load of the transposed chunk's columns of a block held at `x`. -/
theorem readAt_cols (mr : Memref sig .tc .vmem S512x5120 .bf16) (h : mr.IsWhole) (i : grid0.Coords) (inb) (x : Vec F S512x5120 .bf16) :
    mr.view.readAt (Elt F) (Rect.unit (s := S512x5120) (k0_off2 i) S512x256.size inb).toLoadRect (h.unread x) = colsOf x (i 0).val := by
  rw [View.readAt_eq_ld, h.read_unread, ld_cols]

/-- The branch is taken at the first row block of each column tile. -/
abbrev cond0_0 (i : grid0.Coords) : Prop := k0_cond1 i = 1#1
theorem hcond0_0 : ∀ t : Fin cfg0.N, cond0_0 (grid0.coords t) ↔ t.val % 24 = 0 :=
  (fun t => by
    have ht : t.val < 480 := Nat.lt_of_lt_of_eq t.isLt N_0
    have e0 : (grid0.coords t 0).val = t.val / 24 % 20 := Pipeline.Grid.coords_val t 0 (by decide) rfl
    have e1 : (grid0.coords t 1).val = t.val / 1 % 24 := Pipeline.Grid.coords_val t 1 (by decide) rfl
    simp only [cond0_0, k0_cond1, e0, e1]
    word_cmp
   : ∀ t : Fin grid0.N, cond0_0 (grid0.coords t) ↔ t.val % 24 = 0)

set_option maxHeartbeats 1000000 in
/-- The body away from the first row block: from the scratch at `W` and the accumulators at `r` and `g`, the error tile, the
    transposed chunk, and the reconstruction sums with the block's added; the scratch and the regularizer sums kept. -/
theorem kernelRun0_B (c : Dev nD) (i : grid0.Coords) (arg2 : Memref sig .tc .vmem S512x5120 .bf16) (harg2 : arg2.IsWhole) (arg3 : Memref sig .tc .vmem S5120x768 .i8) (harg3 : arg3.IsWhole) (arg4 : Memref sig .tc .vmem S5120x768 .f32) (harg4 : arg4.IsWhole) (arg5 : Memref sig .tc .vmem S512x768 .bf16) (harg5 : arg5.IsWhole) (arg6 : Memref sig .tc .vmem S1x768 .f32) (harg6 : arg6.IsWhole) (arg7 : Memref sig .tc .vmem S512x768 .bf16) (harg7 : arg7.IsWhole) (arg8 : Memref sig .tc .vmem S256x512 .bf16) (harg8 : arg8.IsWhole) (arg9 : Memref sig .tc .vmem S1x768 .f32) (harg9 : arg9.IsWhole) (arg10 : Memref sig .tc .vmem S1x768 .f32) (harg10 : arg10.IsWhole) (arg11 : Memref sig .tc .vmem S5120x768 .bf16) (harg11 : arg11.IsWhole) (hc0 : ¬cond0_0 i)
    (x0 : Vec F S512x5120 .bf16) (x1 : Vec F S5120x768 .i8) (x2 : Vec F S5120x768 .f32) (x3 : Vec F S512x768 .bf16) (x4 : Vec F S1x768 .f32)
    (W : Vec F S5120x768 .bf16) (r g : Vec F S1x768 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare r ∗ owns (c : Thread nD τ) arg10 fullShare g ∗ owns (c : Thread nD τ) arg11 fullShare W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x3 x0 W) ∗ owns (c : Thread nD τ) arg8 fullShare (k0_pay7 (colsOf x0 (i 0).val)) ∗ owns (c : Thread nD τ) arg9 fullShare (k0_pay6 x3 x0 W r) ∗ owns (c : Thread nD τ) arg10 fullShare g ∗ owns (c : Thread nD τ) arg11 fullShare W) -∗ K ⟨⟩))
          ⊢ wp frame (wpE (defs₀ (F := F)) Variants.none c none) E (cc0_fwd i arg2 harg2 arg3 harg3 arg4 harg4 arg5 harg5 arg6 harg6 arg7 harg7 arg8 harg8 arg9 harg9 arg10 harg10 arg11 harg11) K := by
    intro E K
    simp only [cc0_fwd_eq_skeleton]; unfold cc0_fwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4
    obtain rfl := harg9.eq_unread hf7; obtain rfl := harg10.eq_unread hf8; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      rw [read_writes_whole _ _ hz2]
      exact congr (congr (congrArg k0_pay5 (readAt_whole arg5 harg5 hz2 inb_S512x768_S512x768_0_0 x3)) (readAt_whole arg2 harg2 hz2 inb_S512x5120_S512x5120_0_0 x0)) (readAt_whole arg11 harg11 hz2 inb_S5120x768_S5120x768_0_0 W)
    isplitl [H6]
    · iexists _; isplitr; swap; · iexact H6
      ipureintro
      rw [read_writes_whole _ _ hz2]
      exact congrArg k0_pay7 (readAt_cols arg2 harg2 i _ x0)
    isplitl [H7]
    · iexists _; isplitr; swap; · iexact H7
      ipureintro
      rw [read_writes_whole _ _ hz2]
      exact congr (congr (congr (congrArg k0_pay6 (readAt_whole arg5 harg5 hz2 inb_S512x768_S512x768_0_0 x3)) (readAt_whole arg2 harg2 hz2 inb_S512x5120_S512x5120_0_0 x0)) (readAt_whole arg11 harg11 hz2 inb_S5120x768_S5120x768_0_0 W)) (readAt_whole arg9 harg9 hz2 inb_S1x768_S1x768_0_0 r)
    isplitl [H8]
    · iexists _; isplitr; · ipureintro; exact harg10.read_unread _
      iexact H8
    iexists _; isplitr; · ipureintro; exact harg11.read_unread _
    iexact HS0

set_option maxHeartbeats 1000000 in
/-- The body at the first row block of a column tile: whatever the scratch and the accumulators held, the scratch ends at the
    tile's dequantized weights, the reconstruction sums at the block's from zero, the regularizer sums at the tile's. -/
theorem kernelRun0_A (c : Dev nD) (i : grid0.Coords) (arg2 : Memref sig .tc .vmem S512x5120 .bf16) (harg2 : arg2.IsWhole) (arg3 : Memref sig .tc .vmem S5120x768 .i8) (harg3 : arg3.IsWhole) (arg4 : Memref sig .tc .vmem S5120x768 .f32) (harg4 : arg4.IsWhole) (arg5 : Memref sig .tc .vmem S512x768 .bf16) (harg5 : arg5.IsWhole) (arg6 : Memref sig .tc .vmem S1x768 .f32) (harg6 : arg6.IsWhole) (arg7 : Memref sig .tc .vmem S512x768 .bf16) (harg7 : arg7.IsWhole) (arg8 : Memref sig .tc .vmem S256x512 .bf16) (harg8 : arg8.IsWhole) (arg9 : Memref sig .tc .vmem S1x768 .f32) (harg9 : arg9.IsWhole) (arg10 : Memref sig .tc .vmem S1x768 .f32) (harg10 : arg10.IsWhole) (arg11 : Memref sig .tc .vmem S5120x768 .bf16) (harg11 : arg11.IsWhole) (hc0 : cond0_0 i)
    (x0 : Vec F S512x5120 .bf16) (x1 : Vec F S5120x768 .i8) (x2 : Vec F S5120x768 .f32) (x3 : Vec F S512x768 .bf16) (x4 : Vec F S1x768 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x3 x0 (whatOf x1 x2 x4)) ∗ owns (c : Thread nD τ) arg8 fullShare (k0_pay7 (colsOf x0 (i 0).val)) ∗ owns (c : Thread nD τ) arg9 fullShare (k0_pay6 x3 x0 (whatOf x1 x2 x4) (k0_pay3 (F := F))) ∗ owns (c : Thread nD τ) arg10 fullShare (k0_pay2 (regFold x2 20)) ∗ owns (c : Thread nD τ) arg11 fullShare (whatOf x1 x2 x4)) -∗ K ⟨⟩))
          ⊢ wp frame (wpE (defs₀ (F := F)) Variants.none c none) E (cc0_fwd i arg2 harg2 arg3 harg3 arg4 harg4 arg5 harg5 arg6 harg6 arg7 harg7 arg8 harg8 arg9 harg9 arg10 harg10 arg11 harg11) K := by
    intro E K
    simp only [cc0_fwd_eq_skeleton]; unfold cc0_fwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    have hst := st_read (F := F) c i arg2 harg2 arg3 harg3 arg4 harg4 arg5 harg5 arg6 harg6 arg7 harg7 arg8 harg8 arg9 harg9 arg10 harg10 arg11 harg11 hc0 x1 x2 x4 fs0
    have hacc := st_acc (F := F) c i arg2 harg2 arg3 harg3 arg4 harg4 arg5 harg5 arg6 harg6 arg7 harg7 arg8 harg8 arg9 harg9 arg10 harg10 arg11 harg11 hc0 x1 x2 x4
    have e5 : arg5.view.readAt (Elt F) (Rect.unit (s := S512x768) ![0, 0] S512x768.size inb_S512x768_S512x768_0_0).toLoadRect (harg5.unread x3) = x3 := readAt_whole arg5 harg5 hz2 _ x3
    have e2 : arg2.view.readAt (Elt F) (Rect.unit (s := S512x5120) ![0, 0] S512x5120.size inb_S512x5120_S512x5120_0_0).toLoadRect (harg2.unread x0) = x0 := readAt_whole arg2 harg2 hz2 _ x0
    have e11 : arg11.view.readAt (Elt F) (Rect.unit (s := S5120x768) ![0, 0] S5120x768.size inb_S5120x768_S5120x768_0_0).toLoadRect
        (arg11.view.writes (Elt F) fs0 (st_k0_t1 (F := F) Variants.none c none i arg2 harg2 arg3 harg3 arg4 harg4 arg5 harg5 arg6 harg6 arg7 harg7 arg8 harg8 arg9 harg9 arg10 harg10 arg11 harg11 hc0 (harg3.unread x1) (harg4.unread x2) (harg6.unread x4) (k0_pay1 (F := F)) k0_t1_loop.trips).2) = whatOf x1 x2 x4 := by
      rw [View.readAt_eq_ld, hst, View.ld_unit_zero hz2]
    isplitl [H5]
    · iexists _; isplitr; swap; · iexact H5
      ipureintro
      rw [read_writes_whole _ _ hz2]
      exact congr (congr (congrArg k0_pay5 e5) e2) e11
    isplitl [H6]
    · iexists _; isplitr; swap; · iexact H6
      ipureintro
      rw [read_writes_whole _ _ hz2]
      exact congrArg k0_pay7 (readAt_cols arg2 harg2 i _ x0)
    isplitl [H7]
    · iexists _; isplitr; swap; · iexact H7
      ipureintro
      rw [read_writes_whole _ _ hz2]
      exact congr (congr (congr (congrArg k0_pay6 e5) e2) e11) (View.readCov_unit_zero (S := S1x768) _ hz2 _ _)
    isplitl [H8]
    · iexists _; isplitr; swap; · iexact H8
      ipureintro
      rw [read_writes_whole _ _ hz2]
      exact congrArg k0_pay2 hacc
    iexists _; isplitr; swap; · iexact HS0
    ipureintro; exact hst

end Cert.Kernel.Hand

end
-- ==== Proof.ChipFwdDat.lean ====
module

public import proofs.«01_k».proof.Proof.ChipFwdBody
public import Idealize.ShloMosaic.Lib.Pipeline.TableIdle

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

/-! # The forward kernel over its grid

Column tile `j` and row block `i` are point `24 j + i`. The scratch holds the tile's dequantized weights from the tile's first
point on; the reconstruction sums grow by one row block a point (`recAt`); the regularizer sums stay. All of it is stated over
the contents `V` the region finds its arrays at. -/

abbrev scM0_0 : Memref sig .tc .vmem S5120x768 .bf16 := Memref.whole cc0_scratch0

/-- The scoped buffers of the other kernel, at anything. -/
def restS (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA0_eq (c : Dev nD) :
    (Pipeline.ΦA spec0 c : sProp 𝕄) = iprop(((∃ d, owns (c : Thread nD τ) scM0_0 fullShare d) ∗ restS (F := F) c) ∗ (∃ r, prngReg c r)) := by
  unfold Pipeline.ΦA restS; rw [scopedRest0_eq]; simp only [scM0_0, owns_whole]; try rfl

variable (V : (c : Dev nD) → (b : Ref sig .tc) → Buf (Elt F) ((c : Thread nD τ).loc b))

/-- Window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The dequantized weights of point `t`'s column tile. -/
def whatAt (c : Dev nD) (t : Fin cfg0.N) : Vec F S5120x768 .bf16 := whatOf (iblk0 V c 1 t) (iblk0 V c 2 t) (iblk0 V c 4 t)

/-- The reconstruction sums after point `n`: restarted at each column tile's first point. -/
def recAt (c : Dev nD) : (n : ℕ) → n < cfg0.N → Vec F S1x768 .f32
  | 0, h => k0_pay6 (iblk0 V c 3 ⟨0, h⟩) (iblk0 V c 0 ⟨0, h⟩) (whatAt V c ⟨0, h⟩) (k0_pay3 (F := F))
  | n + 1, h => k0_pay6 (iblk0 V c 3 ⟨n + 1, h⟩) (iblk0 V c 0 ⟨n + 1, h⟩) (whatAt V c ⟨n + 1, h⟩)
      (if (n + 1) % 24 = 0 then (k0_pay3 (F := F)) else recAt c n (Nat.lt_of_succ_lt h))

theorem recAt_first (c : Dev nD) (n : ℕ) (h : n < cfg0.N) (h0 : n % 24 = 0) :
    recAt V c n h = k0_pay6 (iblk0 V c 3 ⟨n, h⟩) (iblk0 V c 0 ⟨n, h⟩) (whatAt V c ⟨n, h⟩) (k0_pay3 (F := F)) := by
  cases n with
  | zero => rfl
  | succ n => rw [recAt, if_pos h0]

theorem recAt_next (c : Dev nD) (n : ℕ) (h : n + 1 < cfg0.N) (h0 : ¬(n + 1) % 24 = 0) :
    recAt V c (n + 1) h = k0_pay6 (iblk0 V c 3 ⟨n + 1, h⟩) (iblk0 V c 0 ⟨n + 1, h⟩) (whatAt V c ⟨n + 1, h⟩) (recAt V c n (Nat.lt_of_succ_lt h)) := by
  rw [recAt, if_neg h0]

/-- The invariant before point `n`: nothing named before the first, then the scratch at the last point's weights. -/
def PhiS (c : Dev nD) : (n : ℕ) → n ≤ cfg0.N → sProp 𝕄
  | 0, _ => Pipeline.ΦA spec0 c
  | n + 1, h => iprop((owns (c : Thread nD τ) scM0_0 fullShare (whatAt V c ⟨n, h⟩) ∗ restS (F := F) c) ∗ (∃ r, prngReg c r))

theorem PhiS_pos (c : Dev nD) (n : ℕ) (h : n + 1 ≤ cfg0.N) : PhiS V c (n + 1) h =
    iprop((owns (c : Thread nD τ) scM0_0 fullShare (whatAt V c ⟨n, h⟩) ∗ restS (F := F) c) ∗ (∃ r, prngReg c r)) := rfl

/-- Whatever it names, the invariant has the scratch at some contents. -/
theorem PhiS_any (c : Dev nD) (n : ℕ) (h : n ≤ cfg0.N) : PhiS V c n h ⊢ Pipeline.ΦA spec0 c := by
  cases n with
  | zero => exact .rfl
  | succ n =>
    rw [PhiA0_eq, PhiS_pos]
    iintro ⟨⟨HS, HR⟩, Hg⟩
    isplitl [HS HR]
    · isplitl [HS]; · iexists _; iexact HS
      iexact HR
    iexact Hg

/-- The proof data of the forward kernel. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay5 (iblk0 V c 3 t) (iblk0 V c 0 t) (whatAt V c t)
    | ⟨6, _⟩ => k0_pay7 (colsOf (iblk0 V c 0 t) (grid0.coords t 0).val)
    | ⟨7, _⟩ => recAt V c t.val t.isLt
    | ⟨8, _⟩ => k0_pay2 (regFold (iblk0 V c 2 t) 20)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay5 (iblk0 V c 3 t) (iblk0 V c 0 t) (whatAt V c t) := by dsimp only [dat0]
theorem after0_6 (c : Dev nD) (t : Fin cfg0.N) : (dat0 V c).after 6 t = k0_pay7 (colsOf (iblk0 V c 0 t) (grid0.coords t 0).val) := by dsimp only [dat0]
theorem after0_7 (c : Dev nD) (t : Fin cfg0.N) : (dat0 V c).after 7 t = recAt V c t.val t.isLt := by dsimp only [dat0]
theorem after0_8 (c : Dev nD) (t : Fin cfg0.N) : (dat0 V c).after 8 t = k0_pay2 (regFold (iblk0 V c 2 t) 20) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- Away from the first row block of a column tile window 1's block is the point before's. -/
theorem same0_1 (c : Dev nD) (t : Fin cfg0.N) (h : ¬t.val % 24 = 0) :
    iblk0 V c 1 t = iblk0 V c 1 ⟨t.val - 1, Nat.lt_of_le_of_lt (Nat.sub_le _ _) t.isLt⟩ := by
  have hf : (cfg0.win 1).fetch t = false := by
    rw [← Bool.not_eq_true]; exact fun hh => h ((fetch0_1 t).mp hh)
  obtain ⟨_, hix⟩ := (cfg0.win 1).index_eq_of_fetch rfl t hf
  have e : ∀ u : Fin cfg0.N, ∀ d, (dat0 V c).fetched 1 u d = iblk0 V c 1 u := fun u d => by
    unfold Dat.fetched Dat.blockOf iblk0; rw [A_eq0]; try rfl
  by_cases hne : Nonempty ((cfg0.win 1).block.Idx → Elt F (cfg0.win 1).elt)
  · obtain ⟨d⟩ := hne
    rw [← e t d, ← e _ d]
    exact ((dat0 V c).fetched_congr 1 hix.symm rfl d).symm
  · exact absurd ⟨(iblk0 V c 1 t : S5120x768.Idx → _)⟩ hne

/-- Away from the first row block of a column tile window 2's block is the point before's. -/
theorem same0_2 (c : Dev nD) (t : Fin cfg0.N) (h : ¬t.val % 24 = 0) :
    iblk0 V c 2 t = iblk0 V c 2 ⟨t.val - 1, Nat.lt_of_le_of_lt (Nat.sub_le _ _) t.isLt⟩ := by
  have hf : (cfg0.win 2).fetch t = false := by
    rw [← Bool.not_eq_true]; exact fun hh => h ((fetch0_2 t).mp hh)
  obtain ⟨_, hix⟩ := (cfg0.win 2).index_eq_of_fetch rfl t hf
  have e : ∀ u : Fin cfg0.N, ∀ d, (dat0 V c).fetched 2 u d = iblk0 V c 2 u := fun u d => by
    unfold Dat.fetched Dat.blockOf iblk0; rw [A_eq0]; try rfl
  by_cases hne : Nonempty ((cfg0.win 2).block.Idx → Elt F (cfg0.win 2).elt)
  · obtain ⟨d⟩ := hne
    rw [← e t d, ← e _ d]
    exact ((dat0 V c).fetched_congr 2 hix.symm rfl d).symm
  · exact absurd ⟨(iblk0 V c 2 t : S5120x768.Idx → _)⟩ hne

/-- Away from the first row block of a column tile window 4's block is the point before's. -/
theorem same0_4 (c : Dev nD) (t : Fin cfg0.N) (h : ¬t.val % 24 = 0) :
    iblk0 V c 4 t = iblk0 V c 4 ⟨t.val - 1, Nat.lt_of_le_of_lt (Nat.sub_le _ _) t.isLt⟩ := by
  have hf : (cfg0.win 4).fetch t = false := by
    rw [← Bool.not_eq_true]; exact fun hh => h ((fetch0_4 t).mp hh)
  obtain ⟨_, hix⟩ := (cfg0.win 4).index_eq_of_fetch rfl t hf
  have e : ∀ u : Fin cfg0.N, ∀ d, (dat0 V c).fetched 4 u d = iblk0 V c 4 u := fun u d => by
    unfold Dat.fetched Dat.blockOf iblk0; rw [A_eq0]; try rfl
  by_cases hne : Nonempty ((cfg0.win 4).block.Idx → Elt F (cfg0.win 4).elt)
  · obtain ⟨d⟩ := hne
    rw [← e t d, ← e _ d]
    exact ((dat0 V c).fetched_congr 4 hix.symm rfl d).symm
  · exact absurd ⟨(iblk0 V c 4 t : S1x768.Idx → _)⟩ hne

theorem whatAt_same (c : Dev nD) (t : Fin cfg0.N) (h : ¬t.val % 24 = 0) :
    whatAt V c t = whatAt V c ⟨t.val - 1, Nat.lt_of_le_of_lt (Nat.sub_le _ _) t.isLt⟩ := by
  unfold whatAt; rw [same0_1 V c t h, same0_2 V c t h, same0_4 V c t h]

theorem PhiS_castSucc (c : Dev nD) (t : Fin cfg0.N) : (dat0 V c).Φ t.castSucc = PhiS V c t.val (le_of_lt t.isLt) := by
  dsimp only [dat0]; exact Pipeline.Dat.Φ_castSucc (PhiS V c) t
theorem PhiS_succ (c : Dev nD) (t : Fin cfg0.N) : (dat0 V c).Φ t.succ = PhiS V c (t.val + 1) t.isLt := by
  dsimp only [dat0]; rfl

/-- Away from a tile's first point the two accumulators' buffers hold what the point before left. -/
theorem before0_7 (c : Dev nD) (t : Fin cfg0.N) (h : ¬t.val % 24 = 0) (d) :
    (dat0 V c).before 7 t d = recAt V c (t.val - 1) (Nat.lt_of_le_of_lt (Nat.sub_le _ _) t.isLt) := by
  rw [(dat0 V c).before_out_kept 7 rfl t (by omega) (by rw [← Bool.not_eq_true]; exact fun hh => absurd ((flush0_7 _).mp hh) (by show ¬(t.val - 1) % 24 = 23; omega))
    (fun _ => rfl) (fun _ _ => rfl) d, after0_7]

/-- Window 8 is idle exactly away from a tile's first point. -/
theorem idle0_8 (t : Fin cfg0.N) : cfg0.idle 8 (cfg0.grid.coords t) = !decide (t.val % 24 = 0) := by
  show (!(k0_cond1 (grid0.coords t) == 1#1)) = _
  by_cases h : t.val % 24 = 0
  · rw [show k0_cond1 (grid0.coords t) = 1#1 from (hcond0_0 t).mpr h]; simp [h]
  · have := fun hh => h ((hcond0_0 t).mp hh)
    simp [h, show ¬k0_cond1 (grid0.coords t) = 1#1 from this]

/-- and its buffer is fresh exactly at a tile's first point. -/
theorem fresh0_8 (n : ℕ) (h : n ≤ cfg0.N) : cfg0.fresh 8 n = decide (n % 24 = 0) :=
  cfg0.fresh_tab 8 (fun n => decide (n % 24 = 0)) rfl (fun t => by
    rw [idle0_8]
    have hf := flush0_8 t
    by_cases h23 : t.val % 24 = 23
    · rw [hf.mpr h23]; simp only [Bool.true_or]; exact decide_eq_true (by omega)
    · rw [Bool.eq_false_iff.mpr fun hh => h23 (hf.mp hh), Bool.false_or]
      rw [decide_eq_false (by omega : ¬(t.val + 1) % 24 = 0)]
      cases decide (t.val % 24 = 0) <;> rfl) n h

theorem before0_8_traj (c : Dev nD) (t : Fin cfg0.N) (d) :
    (dat0 V c).before 8 t d = if cfg0.fresh 8 t.val then d else (dat0 V c).after 8 ⟨t.val - 1, Nat.lt_of_le_of_lt (Nat.sub_le _ _) t.isLt⟩ :=
  (dat0 V c).before_out_traj 8 rfl (fun _ _ => rfl) (fun t _ hi _ => by
    have h : ¬t.val % 24 = 0 := fun h0 => by rw [idle0_8, decide_eq_true h0] at hi; exact absurd hi (by decide)
    rw [after0_8, after0_8, ← same0_2 V c t h]) t.val t rfl d

theorem before0_8 (c : Dev nD) (t : Fin cfg0.N) (h : ¬t.val % 24 = 0) (d) :
    (dat0 V c).before 8 t d = k0_pay2 (regFold (iblk0 V c 2 t) 20) := by
  rw [before0_8_traj, fresh0_8 _ t.isLt.le, decide_eq_false h, if_neg Bool.false_ne_true, after0_8, ← same0_2 V c t h]

/-- At every point the regularizer's buffer can be handed back as found. -/
theorem before0_8_self (c : Dev nD) (t : Fin cfg0.N) : (dat0 V c).before 8 t ((dat0 V c).after 8 t) = (dat0 V c).after 8 t := by
  by_cases h : t.val % 24 = 0
  · rw [before0_8_traj, fresh0_8 _ t.isLt.le, decide_eq_true h, if_pos rfl]
  · rw [before0_8 V c t h, after0_8]

theorem leaves0_8 (c : Dev nD) (t : Fin cfg0.N) :
    (owns (c : Thread nD τ) (st0_8 t) fullShare ((dat0 V c).after 8 t) : sProp 𝕄) ⊢
      (match cfg0.idle 8 (cfg0.grid.coords t) with
        | true => match (cfg0.win 8).flush t with
          | false => iprop(∃ d, owns (c : Thread nD τ) ((cfg0.win 8).stage (cfg0.slots t 8)) fullShare ((dat0 V c).before 8 t d))
          | true => owns (c : Thread nD τ) ((cfg0.win 8).stage (cfg0.slots t 8)) fullShare ((dat0 V c).after 8 t)
        | false => owns (c : Thread nD τ) ((cfg0.win 8).stage (cfg0.slots t 8)) fullShare ((dat0 V c).after 8 t)) := by
  cases cfg0.idle 8 (cfg0.grid.coords t)
  · exact .rfl
  · cases (cfg0.win 8).flush t
    · dsimp only
      iintro H; iexists ((dat0 V c).after 8 t); rw [before0_8_self]; iexact H
    · exact .rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 1600000 in
/-- The body at any point, by the case the point is in. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [PhiS_succ, PhiS_castSucc,
    show (dat0 V c).owesAt () t.succ = (dat0 V c).owesAt () t.castSucc from rfl,
    after0_0, after0_1, after0_2, after0_3, after0_4, after0_5, after0_6, after0_7, after0_8]
  have hN : t.val < 480 := lt_of_lt_of_eq t.isLt (show cfg0.N = 480 from N_0)
  by_cases h0 : t.val % 24 = 0
  · rw [recAt_first V c t.val t.isLt h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := ((PhiS_any V c t.val (le_of_lt t.isLt)).trans (PhiA0_eq c).le) $$ HΦ
    icases HΦ' with ⟨⟨HS0, HR⟩, Hg⟩
    iapply ((kernelRun0_A c (grid0.coords t) _ _ _ _ _ _ _ _ _ _ _ _ _ _ _ _ _ _ _ _ ((hcond0_0 t).mpr h0) (iblk0 V c 0 t) (iblk0 V c 1 t) (iblk0 V c 2 t) (iblk0 V c 3 t) (iblk0 V c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS0]; · iexact HS0
    iintro ⟨H0, H1, H2, H3, H4, H5, H6, H7, H8, HS0⟩
    isplitl [HS0 HR Hg]
    · rw [PhiS_pos]
      isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · obtain ⟨n, hn⟩ : ∃ n, t.val = n + 1 := ⟨t.val - 1, by omega⟩
    obtain ⟨tv, tlt⟩ := t
    obtain rfl : tv = n + 1 := hn
    simp only [before0_7 V c ⟨n + 1, tlt⟩ h0, before0_8 V c ⟨n + 1, tlt⟩ h0]
    rw [recAt_next V c n tlt h0, PhiS_pos, PhiS_pos]
    rw [show whatAt V c ⟨n, tlt.le⟩ = whatAt V c ⟨n + 1, tlt⟩ from (whatAt_same V c ⟨n + 1, tlt⟩ h0).symm]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords ⟨n + 1, tlt⟩) _ _ _ _ _ _ _ _ _ _ _ _ _ _ _ _ _ _ _ _ (fun h => h0 ((hcond0_0 ⟨n + 1, tlt⟩).mp h)) (iblk0 V c 0 ⟨n + 1, tlt⟩) (iblk0 V c 1 ⟨n + 1, tlt⟩) (iblk0 V c 2 ⟨n + 1, tlt⟩) (iblk0 V c 3 ⟨n + 1, tlt⟩) (iblk0 V c 4 ⟨n + 1, tlt⟩)
      (whatAt V c ⟨n + 1, tlt⟩) (recAt V c n (Nat.lt_of_succ_lt tlt)) (k0_pay2 (regFold (iblk0 V c 2 ⟨n + 1, tlt⟩) 20))) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [H8]; · iexact H8
    isplitl [HS0]; · iexact HS0
    iintro ⟨H0, H1, H2, H3, H4, H5, H6, H7, H8, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row0 (t : Fin cfg0.N) :
    defs₀ (F := F) .tc cfg0.body (cfg0.bodyArgs t (cfg0.slots t)) = bodyAt0 t := by
  unfold defs₀; rw [Defs.onTc_tc]

/-- The library's body obligation of the forward kernel. -/
theorem body_obligation0 (c : Dev nD) : BodyObligation (dat0 (F := F) V c) (defs₀ (F := F)) Variants.none () Set.univ := fun t => by
  rw [bigSep_W0, bigSep_W0, defs₀_row0]
  refine triple_restated (sound_body0 V c t) rfl .rfl fun _ => ?_
  unfold bodyPost0
  iintro ⟨HΦ, Ho, H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (leaves0_8 V c t); iexact H8

end Cert.Kernel.Hand

end
-- ==== Proof.ChipBwd.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.ValueIdxCore
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

/-! # The backward kernel over its grid

Each point multiplies one row tile of the transposed activations with one column tile of the residual, scales the product by
the derivative of the weights and adds the regularizer's derivative. Nothing is carried from point to point. -/

variable (V : (c : Dev nD) → (b : Ref sig .tc) → Buf (Elt F) ((c : Thread nD τ).loc b))

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S512x12288 := Rect.unit (s := S512x12288) ![0, 0] S512x12288.size inb_S512x12288_S512x12288_0_0
abbrev r1_1 : Rect S12288x512 := Rect.unit (s := S12288x512) ![0, 0] S12288x512.size inb_S12288x512_S12288x512_0_0
abbrev r1_2 : Rect S512x512 := Rect.unit (s := S512x512) ![0, 0] S512x512.size inb_S512x512_S512x512_0_0
abbrev r1_3 : Rect S1x512 := Rect.unit (s := S1x512) ![0, 0] S1x512.size inb_S1x512_S1x512_0_0

/-- What the body leaves in the gradient's buffer, from the input blocks. -/
def out1_5 (x0 : Vec F S512x12288 .bf16) (x1 : Vec F S12288x512 .bf16) (x2 : Vec F S512x512 .i8) (x3 : Vec F S1x512 .f32) (x4 : Vec F S512x512 .f32) : Vec F S512x512 .f32 :=
  View.canon [⟨r1_2, k1_pay1 (k1_pay2 (View.ld x0 r1_0) (View.ld x1 r1_1)) (k1_pay5 (View.ld x4 r1_2)) (k1_pay6 (View.ld x4 r1_2) (View.ld x2 r1_2)) (k1_pay7 (View.ld x4 r1_2)) (k1_pay8 (View.ld x4 r1_2)) (View.ld x3 r1_3)⟩]

theorem cover1_5 (p0 : Vec F S512x512 .f32) (y : S512x512.Idx) :
    ∃ pc ∈ ([⟨r1_2, p0⟩] : List (View.Piece (Elt F) S512x512 .f32)), y ∈ pc.1.set :=
  View.cover_of_tiled [⟨r1_2, p0⟩] S512x512.size (by rfl) y

set_option maxHeartbeats 1000000 in
theorem sound_kernel1 (c : Dev nD) (E : Set ℕ) (i : grid1.Coords) (arg2 : Memref sig .tc .vmem S512x12288 .bf16) (harg2 : arg2.IsWhole) (arg3 : Memref sig .tc .vmem S12288x512 .bf16) (harg3 : arg3.IsWhole) (arg4 : Memref sig .tc .vmem S512x512 .i8) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole)
    (x0 : Vec F S512x12288 .bf16) (x1 : Vec F S12288x512 .bf16) (x2 : Vec F S512x512 .i8) (x3 : Vec F S1x512 .f32) (x4 : Vec F S512x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2 x3 x4)) -∗ K ⟨⟩))
      ⊢ wp frame (wpE (defs₀ (F := F)) Variants.none c none) E (cc1_bwd i arg2 harg2 arg3 harg3 arg4 harg4 arg5 harg5 arg6 harg6 arg7 harg7) K := by
  simp only [cc1_bwd_eq_skeleton]; unfold cc1_bwd_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of the backward kernel. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row1 (t : Fin cfg1.N) :
    defs₀ (F := F) .tc cfg1.body (cfg1.bodyArgs t (cfg1.slots t)) = bodyAt1 t := by
  unfold defs₀; rw [Defs.onTc_tc]

/-- The library's body obligation of the backward kernel. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Hand

end
-- ==== Proof.ChipRun.lean ====
module

public import proofs.«01_k».proof.Proof.ChipFwdDat
public import proofs.«01_k».proof.Proof.ChipBwd
public import proofs.«01_k».proof.Proof.Gen.Kernel.Regions
public import Idealize.ShloMosaic.Lib.Pipeline.RegionArraysS
public import Idealize.ShloMosaic.Lib.Pipeline.FrameTail
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

/-! # The whole program's run

Reshapes of the arguments, the forward kernel, the backward kernel, reshapes of the results: what every buffer holds after
each, and the run that reaches the last of these contents from any memory. -/

open Idealize.ShloMosaic.Pipeline (Seg HostSeg RegionSeg afterRegion afterRegion_arr afterRegion_keeps afterRegion_of_not_arr)

variable (m : (ℓ : Loc nD τ sig) → Buf (Elt F) ℓ)

/-- The buffers before the forward kernel, -/
def W1 (c : Dev nD) : Valuation τ sig (Elt F) := StableHlo.after hostOps0 (V0 m c)
def E1 (c : Dev nD) (b : Ref sig .tc) : Buf (Elt F) ((c : Thread nD τ).loc b) := W1 m c (Proc.devRef .tc b)
/-- between the two kernels, -/
def W2 (c : Dev nD) : Valuation τ sig (Elt F) := afterRegion (dat0 (E1 m) c) (W1 m c)
def E2 (c : Dev nD) (b : Ref sig .tc) : Buf (Elt F) ((c : Thread nD τ).loc b) := W2 m c (Proc.devRef .tc b)
/-- after the backward kernel, -/
def W3 (c : Dev nD) : Valuation τ sig (Elt F) := afterRegion (dat1 (E2 m) c) (W2 m c)
/-- and at the end. -/
def W4 (c : Dev nD) : Valuation τ sig (Elt F) := StableHlo.after hostOps2 (W3 m c)

theorem W2_arr (c : Dev nD) (w : Fin cfg0.W) : W2 m c (Proc.devRef .tc (Pipeline.arrRef spec0 w)) = (dat0 (E1 m) c).arrAt w cfg0.N :=
  afterRegion_arr (dat0 (E1 m) c) (W1 m c) launch0.win.arr_inj w
theorem W3_arr (c : Dev nD) (w : Fin cfg1.W) : W3 m c (Proc.devRef .tc (Pipeline.arrRef spec1 w)) = (dat1 (E2 m) c).arrAt w cfg1.N :=
  afterRegion_arr (dat1 (E2 m) c) (W2 m c) launch1.win.arr_inj w

theorem W2_keeps (c : Dev nD) (r : Ref sig .tc) (h : ∀ w, Pipeline.arrRef spec0 w = r → (cfg0.win w).isOut = false) :
    W2 m c (Proc.devRef .tc r) = W1 m c (Proc.devRef .tc r) :=
  afterRegion_keeps (dat0 (E1 m) c) (W1 m c) launch0.win.arr_inj (fun w => A_eq0 (E1 m) c w) r h
theorem W3_keeps (c : Dev nD) (r : Ref sig .tc) (h : ∀ w, Pipeline.arrRef spec1 w = r → (cfg1.win w).isOut = false) :
    W3 m c (Proc.devRef .tc r) = W2 m c (Proc.devRef .tc r) :=
  afterRegion_keeps (dat1 (E2 m) c) (W2 m c) launch1.win.arr_inj (fun w => A_eq1 (E2 m) c w) r h
theorem W1_keeps (c : Dev nD) (r : Ref sig .tc) (h : r ∉ hostOps0_W) : W1 m c (Proc.devRef .tc r) = m ((c : Thread nD τ).loc r) :=
  (StableHlo.after_of_writes_sub hostOps0 _ hostOps0_writes h).trans rfl
theorem W4_keeps (c : Dev nD) (r : Ref sig .tc) (h : r ∉ hostOps2_W) : W4 m c (Proc.devRef .tc r) = W3 m c (Proc.devRef .tc r) :=
  StableHlo.after_of_writes_sub hostOps2 _ hostOps2_writes h

/-- A buffer that nothing writes ends as launched. -/
theorem W4_arg (c : Dev nD) (r : Ref sig .tc) (h4 : r ∉ hostOps2_W) (h1 : r ∉ hostOps0_W)
    (h3 : ∀ w, Pipeline.arrRef spec1 w = r → (cfg1.win w).isOut = false) (h2 : ∀ w, Pipeline.arrRef spec0 w = r → (cfg0.win w).isOut = false) :
    W4 m c (Proc.devRef .tc r) = m ((c : Thread nD τ).loc r) :=
  (W4_keeps m c r h4).trans ((W3_keeps m c r h3).trans ((W2_keeps m c r h2).trans (W1_keeps m c r h1)))

/-- The two pipelines' proof data. -/
def pdats : (p : Fin 2) → (c : Dev nD) → Dat τ (Elt F) Unit ℕ (UR sig nD τ) ℕ (cfgs p) c
  | ⟨0, _⟩ => fun c => dat0 (E1 m) c
  | ⟨1, _⟩ => fun c => dat1 (E2 m) c
  | ⟨_ + 2, h⟩ => absurd h (Nat.not_lt.2 (Nat.le_add_left _ _))

/-- One level, at every TensorCore semaphore. -/
def Lset : GSem nD τ sig → Finset Unit := fun g => if g.1.2 = .tc then {()} else ∅
def lvl : GSem nD τ sig → Unit → ℕ := fun _ _ => 0

theorem Phi_first (c : Dev nD) : iprop(Pipeline.scopedRest spec0 c ∗ ∃ r, prngReg c r) ⊢ (dat0 (F := F) (E1 m) c).Φ 0 := by
  show _ ⊢ Pipeline.ΦA spec0 c
  exact .rfl
theorem Phi_last (c : Dev nD) : (dat0 (F := F) (E1 m) c).Φ (Fin.last cfg0.N) ⊢ iprop(Pipeline.scopedRest spec0 c ∗ ∃ r, prngReg c r) := by
  have h : (dat0 (F := F) (E1 m) c).Φ (Fin.last cfg0.N) = PhiS (E1 m) c cfg0.N le_rfl := by dsimp only [dat0]; rfl
  rw [h]; exact PhiS_any (E1 m) c cfg0.N le_rfl

/-- What rides beside the buffers. -/
def ride (c : Dev nD) : sProp 𝕄 := iprop((∃ Wd, owes (c : Thread nD τ) (0 : CellTallies nD τ sig Unit) Wd) ∗ (∃ r, prngReg c r) ∗ emp)

set_option backward.isDefEq.respectTransparency.types false in
theorem cut (p : Fin 2) : Pipeline.LevelCut (pcfgs (F := F)) adm () Lset lvl p (fun _ => 0) fun _ => 0 :=
  ⟨fun c _ _ => by simp [Lset], fun _ _ _ => le_refl _, fun c g i h => absurd h (by simp)⟩

theorem arrs0_sub : Pipeline.arrRefs (τ := τ) spec0 ⊆ Pipeline.ucRefs τ sig := Pipeline.arrRefs_sub_ucRefs spec0 (by decide)
theorem arrs1_sub : Pipeline.arrRefs (τ := τ) spec1 ⊆ Pipeline.ucRefs τ sig := Pipeline.arrRefs_sub_ucRefs spec1 (by decide)

set_option backward.isDefEq.respectTransparency.types false in
/-- The forward kernel's region, -/
def reg0 : RegionSeg (pcfgs (F := F)) adm (pdats m) () defs₀ Variants.none Lset lvl 0 :=
  RegionSeg.ofHeldIn (pcfgs (F := F)) adm (pdats m) () defs₀ Variants.none Lset lvl 0 (fun _ => 0) (Pipeline.ucRefs τ sig)
    (fun c => iprop(∃ r, prngReg c r)) (fun c => iprop(∃ r, prngReg c r)) launch0.toP rfl
    (fun c => (body_obligation0 (E1 m) c).loose) (fun _ _ => rfl) (fun _ => rfl)
    (fun c => (dat0 (E1 m) c).share_full fun _ => rfl) (Phi_first m) (Phi_last m) (fun _ => 0) (cut 0) (fun _ => iprop(emp))
    (W1 m) (fun c w => A_eq0 (E1 m) c w)

set_option backward.isDefEq.respectTransparency.types false in
/-- and the backward kernel's. -/
def reg1 : RegionSeg (pcfgs (F := F)) adm (pdats m) () defs₀ Variants.none Lset lvl 1 :=
  RegionSeg.ofHeldIn (pcfgs (F := F)) adm (pdats m) () defs₀ Variants.none Lset lvl 1 (fun _ => 0) (Pipeline.ucRefs τ sig)
    (fun c => iprop(∃ r, prngReg c r)) (fun c => iprop(∃ r, prngReg c r)) launch1.toP rfl
    (fun c => (body_obligation1 (E2 m) c).loose) (fun _ _ => rfl) (fun _ => rfl)
    (fun c => (dat1 (E2 m) c).share_full fun _ => rfl) (fun _ => .rfl) (fun _ => .rfl) (fun _ => 0) (cut 1) (fun _ => iprop(emp))
    (W2 m) (fun c w => A_eq1 (E2 m) c w)

set_option backward.isDefEq.respectTransparency.types false in
theorem reg0_pre (c : Dev nD) : iprop(StableHlo.held (c : Thread nD τ) (Pipeline.ucRefs τ sig) (W1 m c) ∗ ride (F := F) c) ⊢ (reg0 m).pre c := by
  show _ ⊢ iprop(StableHlo.held (c : Thread nD τ) (Pipeline.arrRefs (τ := τ) spec0) (W1 m c) ∗ (∃ r, prngReg c r)
    ∗ (StableHlo.held (c : Thread nD τ) (Pipeline.ucRefs τ sig \ (Pipeline.arrRefs (τ := τ) spec0)) (W1 m c) ∗ emp) ∗ ∃ Wd, owes (c : Thread nD τ) (0 : CellTallies nD τ sig Unit) Wd)
  unfold ride
  rw [StableHlo.held_sub_split (c : Thread nD τ) arrs0_sub (W1 m c)]
  iintro ⟨⟨Ha, Hu⟩, HO, HX, HR⟩
  isplitl [Ha]; · iexact Ha
  isplitl [HX]; · iexact HX
  isplitl [Hu HR]
  · isplitl [Hu]; · iexact Hu
    iexact HR
  iexact HO
set_option backward.isDefEq.respectTransparency.types false in
theorem reg0_post (c : Dev nD) : (reg0 m).post c ⊢ iprop(StableHlo.held (c : Thread nD τ) (Pipeline.ucRefs τ sig) (W2 m c) ∗ ride (F := F) c) := by
  show iprop(StableHlo.held (c : Thread nD τ) (Pipeline.arrRefs (τ := τ) spec0) (W2 m c) ∗ (∃ r, prngReg c r)
    ∗ (StableHlo.held (c : Thread nD τ) (Pipeline.ucRefs τ sig \ (Pipeline.arrRefs (τ := τ) spec0)) (W1 m c) ∗ emp) ∗ ∃ Wd, owes (c : Thread nD τ) (0 : CellTallies nD τ sig Unit) Wd) ⊢ _
  unfold ride
  rw [StableHlo.held_sub_split (c : Thread nD τ) arrs0_sub (W2 m c),
    StableHlo.held_congr (c : Thread nD τ) (S := Pipeline.ucRefs τ sig \ (Pipeline.arrRefs (τ := τ) spec0)) (V := W2 m c) (V' := W1 m c) (Pipeline.afterRegion_off (dat0 (E1 m) c) (W1 m c) (Pipeline.ucRefs τ sig))]
  iintro ⟨Ha, HY, ⟨Hu, HR⟩, HO⟩
  isplitl [Ha Hu]
  · isplitl [Ha]; · iexact Ha
    iexact Hu
  isplitl [HO]; · iexact HO
  isplitl [HY]; · iexact HY
  iexact HR
set_option backward.isDefEq.respectTransparency.types false in
theorem reg1_pre (c : Dev nD) : iprop(StableHlo.held (c : Thread nD τ) (Pipeline.ucRefs τ sig) (W2 m c) ∗ ride (F := F) c) ⊢ (reg1 m).pre c := by
  show _ ⊢ iprop(StableHlo.held (c : Thread nD τ) (Pipeline.arrRefs (τ := τ) spec1) (W2 m c) ∗ (∃ r, prngReg c r)
    ∗ (StableHlo.held (c : Thread nD τ) (Pipeline.ucRefs τ sig \ (Pipeline.arrRefs (τ := τ) spec1)) (W2 m c) ∗ emp) ∗ ∃ Wd, owes (c : Thread nD τ) (0 : CellTallies nD τ sig Unit) Wd)
  unfold ride
  rw [StableHlo.held_sub_split (c : Thread nD τ) arrs1_sub (W2 m c)]
  iintro ⟨⟨Ha, Hu⟩, HO, HX, HR⟩
  isplitl [Ha]; · iexact Ha
  isplitl [HX]; · iexact HX
  isplitl [Hu HR]
  · isplitl [Hu]; · iexact Hu
    iexact HR
  iexact HO
set_option backward.isDefEq.respectTransparency.types false in
theorem reg1_post (c : Dev nD) : (reg1 m).post c ⊢ iprop(StableHlo.held (c : Thread nD τ) (Pipeline.ucRefs τ sig) (W3 m c) ∗ ride (F := F) c) := by
  show iprop(StableHlo.held (c : Thread nD τ) (Pipeline.arrRefs (τ := τ) spec1) (W3 m c) ∗ (∃ r, prngReg c r)
    ∗ (StableHlo.held (c : Thread nD τ) (Pipeline.ucRefs τ sig \ (Pipeline.arrRefs (τ := τ) spec1)) (W2 m c) ∗ emp) ∗ ∃ Wd, owes (c : Thread nD τ) (0 : CellTallies nD τ sig Unit) Wd) ⊢ _
  unfold ride
  rw [StableHlo.held_sub_split (c : Thread nD τ) arrs1_sub (W3 m c),
    StableHlo.held_congr (c : Thread nD τ) (S := Pipeline.ucRefs τ sig \ (Pipeline.arrRefs (τ := τ) spec1)) (V := W3 m c) (V' := W2 m c) (Pipeline.afterRegion_off (dat1 (E2 m) c) (W2 m c) (Pipeline.ucRefs τ sig))]
  iintro ⟨Ha, HY, ⟨Hu, HR⟩, HO⟩
  isplitl [Ha Hu]
  · isplitl [Ha]; · iexact Ha
    iexact Hu
  isplitl [HO]; · iexact HO
  isplitl [HY]; · iexact HY
  iexact HR

def host0 : HostSeg (Ix := Unit) (Name := ℕ) (U := UR sig nD τ) (Lvl := ℕ) (pcfgs (F := F)) defs₀ Variants.none Lset lvl :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (ride (F := F))
def host3 : HostSeg (Ix := Unit) (Name := ℕ) (U := UR sig nD τ) (Lvl := ℕ) (pcfgs (F := F)) defs₀ Variants.none Lset lvl :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) (ride (F := F))

set_option backward.isDefEq.respectTransparency.types false in
set_option maxHeartbeats 800000 in
/-- From any memory with zero counters every weakly fair execution of the program ends with every unscoped buffer at `W4` and
    every semaphore counter at zero. -/
theorem run (ρ : Dev nD → PrngReg) :
    θ_run defs (onTc (τ := τ) (main (F := F))) ⟨m, fun _ => 0, ρ⟩ (fun r => (∀ (c : Dev nD) (b : Ref sig .tc), b.isScoped = false →
      r.2.mem ((c : Thread nD τ).loc b) = W4 m c (Proc.devRef .tc b)) ∧ r.2.sem = fun _ => 0) := by
  refine Pipeline.θ_run_regions_kit_dev_sems (pcfgs (F := F)) adm (pdats m) () cellOf_inj emb₁ defs₀ Variants.none Lset lvl m ρ main
    (fun _ => [.host (host0 m), .region (reg0 m), .region (reg1 m), .host (host3 m)])
    (fun c Q => by
      rewrite [main_chain c, Seg.run_eq_chain]
      dsimp (config := { failIfUnchanged := false }) only
      exact .rfl)
    (fun c => by simp only [Seg.pipes_host, Seg.pipes_region, Seg.pipes_nil]; decide)
    (O₀ := 0) (hL := fun g h => if_neg h)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ ride (F := F) c))
    (Tₙ := fun c => StableHlo.held (c : Thread nD τ) (Pipeline.ucRefs τ sig) (W4 m c))
    (hch := fun c => ⟨.rfl, reg0_pre m c, (reg0_post m c).trans (reg1_pre m c), reg1_post m c,
      (show iprop(StableHlo.held (c : Thread nD τ) (Pipeline.ucRefs τ sig) (W4 m c) ∗ ride (F := F) c) ⊢ (_ : sProp 𝕄) from by
        unfold ride
        iintro ⟨Hh, HO, -⟩
        isplitl [Hh] <;> iassumption)⟩)
    (hinit := by
      refine Pipeline.initEach Lset lvl fun c => ?_
      rw [show unscopedBufs c (fun b => m ((c : Thread nD τ).loc b)) = StableHlo.held (c : Thread nD τ) (Pipeline.ucRefs τ sig) (V0 m c)
          from Pipeline.unscopedBufs_held (Ix := Unit) (Name := ℕ) (U := UR sig nD τ) (Lvl := ℕ) c (V0 m c)]
      unfold ride
      iintro ⟨⟨Hh, -, HO, -, Hp, -⟩, -⟩
      imodintro
      isplitl [Hh]; · iexact Hh
      isplitl [HO]; · iexists _; iexact HO
      isplitl [Hp]; · iexists _; iexact Hp
      iempintro)
    (QY := fun c s => ∀ b ∈ Pipeline.ucRefs τ sig, s.mem ((c : Thread nD τ).1, b) = W4 m c b)
    (hfin := fun c s' => by
      unfold StableHlo.held
      iintro ⟨Hh, HSI⟩
      ihave Hr := (pointsTo_read_all (Pipeline.ucRefs τ sig) (fun b => ((c : Thread nD τ).1, b)) (W4 m c) s') $$ [Hh HSI]
      · isplitl [Hh] <;> iassumption
      imodintro; iexact Hr)
    (hQ := fun _ h hz => ⟨fun c b hb => h c (Proc.devRef .tc b) (Pipeline.devRef_mem_ucRefs hb),
      funext fun g => hz g (.inr (regions_no_unscoped g.2))⟩)

/-- The frame: the arguments end as launched. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1 c main_arg0 rfl).trans (W4_arg m c main_arg0 (by decide) (by decide) (by decide) (by decide)),
     (h.1 c main_arg1 rfl).trans (W4_arg m c main_arg1 (by decide) (by decide) (by decide) (by decide)),
     (h.1 c main_arg2 rfl).trans (W4_arg m c main_arg2 (by decide) (by decide) (by decide) (by decide)),
     (h.1 c main_arg3 rfl).trans (W4_arg m c main_arg3 (by decide) (by decide) (by decide) (by decide)),
     (h.1 c main_arg4 rfl).trans (W4_arg m c main_arg4 (by decide) (by decide) (by decide) (by decide))⟩, h.2⟩) (run m ρ)

end Cert.Kernel.Hand

end
-- ==== Proof.Frames.lean ====
/- The four claims that compare no values: each program runs to its end with its arguments unchanged and every
   counter at zero, and the named constants of the idealized kernel are the ones the source writes. -/
module

public import proofs.«01_k».proof.Defs
public import proofs.«01_k».proof.Proof.Run
public import proofs.«01_k».proof.Proof.ChipRun
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

/-- The kernel on the machine's own floats: the run of the two regions (`ChipRun.lean`), read at the arguments. -/
theorem frame_p : Cert.quiescent_Kernel (hKernel := Cert.Kernel.Gen.facts) := fun m g _ =>
  Cert.Kernel.Hand.frame m g

/-- The idealized kernel: the same run over the extended reals (`Run.lean`). -/
theorem frame_pi : Cert.quiescent_KernelIdeal (hKernelIdeal := Cert.KernelIdeal.Gen.facts) := fun m g _ =>
  Cert.KernelIdeal.Hand.frame m g

/-- The reference runs host operations only; it declares no semaphore, so every counter is zero. -/
theorem frame_ri : Cert.quiescent_ReferenceIdeal (hReferenceIdeal := Cert.ReferenceIdeal.Gen.facts) := fun m g _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m g)

/-- The two named constants: the single-precision numbers nearest to 6/5 and to 3/10. -/
theorem preserves : Cert.preserves_Kernel_KernelIdeal :=
  ⟨IdealRules.named_const.statement Cert.KernelIdeal.κ "span" .f32 0x3F99999A#32 ((6 / 5 : ℝ) : EReal) rfl,
    IdealRules.named_const.statement Cert.KernelIdeal.κ "quarter_span" .f32 0x3E99999A#32 ((3 / 10 : ℝ) : EReal) rfl⟩

end Cert.Proof

end
-- ==== Proof.Algebra.lean ====
/- The elementwise mathematics: the kernel's formulas in `tanh (v / 2)` and the reference's in the logistic function are the
   same functions of the extended reals, at the infinities too. -/
module

public import Idealize.ShloMosaic.PureOps.Ideal.Laws
public import Idealize.ShloMosaic.Lib.ValueIdx
public import Idealize.ShloMosaic.Lib.IdealHost
public import Mathlib.Analysis.SpecialFunctions.Trigonometric.DerivHyp

@[expose] public section

noncomputable section

namespace Cert.Alg

open Idealize.ShloMosaic Idealize.ShloMosaic.ValueIdx

/-! ## The constants -/

theorem c_half : Ideal.ofBits .f32 0x3F000000#32 = ((1 / 2 : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num
theorem c_neg_one : Ideal.ofBits .f32 0xBF800000#32 = ((-1 : ℝ) : EReal) := by
  simp [Ideal.ofBits, Ideal.ieee, -EReal.coe_mul, -EReal.coe_neg]; norm_num
theorem c_zero : Ideal.ofBits .f32 0x00000000#32 = ((0 : ℝ) : EReal) := by
  simp [Ideal.ofBits, Ideal.ieee]
theorem c_two : Ideal.ofBits .f32 0x40000000#32 = ((2 : ℝ) : EReal) := by
  simp [Ideal.ofBits, Ideal.ieee, -EReal.coe_mul]; norm_num
theorem c_seven : Ideal.ofBits .f32 0x40E00000#32 = ((7 : ℝ) : EReal) := by
  simp [Ideal.ofBits, Ideal.ieee, -EReal.coe_mul]; norm_num
theorem c_eight : Ideal.ofBits .f32 0x41000000#32 = ((8 : ℝ) : EReal) := by
  simp [Ideal.ofBits, Ideal.ieee, -EReal.coe_mul]; norm_num
theorem c_tokens : Ideal.ofBits .f32 0x46400000#32 = ((12288 : ℝ) : EReal) := by
  simp [Ideal.ofBits, Ideal.ieee, -EReal.coe_mul]; norm_num
theorem c_reg : Ideal.ofBits .f32 0xBB4CCCCD#32 = ((-13421773 / 4294967296 : ℝ) : EReal) := by
  simp [Ideal.ofBits, Ideal.ieee, -EReal.coe_mul, -EReal.coe_neg]; norm_num

/-! ## The kernel's formulas -/

/-- `tanh (v / 2)`, -/
def zK (v : EReal) : EReal := Ideal.tanh (Ideal.ofBits .f32 0x3F000000#32 * v)
/-- scaled by the span of the stretched sigmoid, -/
def aK (v : EReal) : EReal := ((6 / 5 : ℝ) : EReal) * zK v
/-- clipped to `[-1, 1]`. -/
def uK (v : EReal) : EReal := min (Ideal.ofBits .f32 0x3F800000#32) (max (Ideal.ofBits .f32 0xBF800000#32) (aK v))
/-- The rectified sigmoid. -/
def hK (v : EReal) : EReal := Ideal.ofBits .f32 0x3F000000#32 * uK v + Ideal.ofBits .f32 0x3F000000#32
/-- The code plus the rectified sigmoid. -/
def preK (w v : EReal) : EReal := w + hK v
/-- The dequantized weight. -/
def whatK (s w v : EReal) : EReal := s * min (Ideal.ofBits .f32 0x40E00000#32) (max (Ideal.ofBits .f32 0xC1000000#32) (preK w v))
/-- One term of the regularizer. -/
def regK (v : EReal) : EReal := Ideal.ofBits .f32 0x3F800000#32 - (uK v * uK v * (uK v * uK v)) * (uK v * uK v * (uK v * uK v))
/-- The derivative of the rectified sigmoid. -/
def dhK (v : EReal) : EReal :=
  Scalar.select (Ideal.cmp .ogt (aK v) (Ideal.ofBits .f32 0xBF800000#32) &&& Ideal.cmp .olt (aK v) (Ideal.ofBits .f32 0x3F800000#32))
    (((3 / 10 : ℝ) : EReal) * (Ideal.ofBits .f32 0x3F800000#32 - zK v * zK v)) (Ideal.ofBits .f32 0x00000000#32)
/-- The derivative of the regularizer. -/
def dregK (v : EReal) : EReal :=
  Ideal.ofBits .f32 0xBB4CCCCD#32 * (uK v * (uK v * uK v) * ((uK v * uK v) * (uK v * uK v)))
/-- One element of the gradient: `g` the product of activations and residuals, `s` the scale, `w` the code. -/
def dvK (g s w v : EReal) : EReal :=
  (Scalar.select (Ideal.cmp .ole (preK w v) (Ideal.ofBits .f32 0x40E00000#32)) (Ideal.ofBits .f32 0xB92AAAAB#32 * g * s)
    (Ideal.ofBits .f32 0x00000000#32) + dregK v) * dhK v

/-! ## The reference's formulas -/

/-- The logistic function, -/
def sgR (v : EReal) : EReal := Ideal.div (Ideal.ofBits .f32 0x3F800000#32) (Ideal.ofBits .f32 0x3F800000#32 + Ideal.exp (-v))
/-- stretched, -/
def tR (v : EReal) : EReal := sgR v * ((6 / 5 : ℝ) : EReal) + ((-1 / 10 : ℝ) : EReal)
/-- rectified. -/
def hR (v : EReal) : EReal := min (Ideal.ofBits .f32 0x3F800000#32) (max (Ideal.ofBits .f32 0x00000000#32) (tR v))
def preR (w v : EReal) : EReal := w + hR v
def whatR (s w v : EReal) : EReal := s * min (Ideal.ofBits .f32 0x40E00000#32) (max (Ideal.ofBits .f32 0xC1000000#32) (preR w v))
def uR (v : EReal) : EReal := Ideal.ofBits .f32 0x40000000#32 * hR v - Ideal.ofBits .f32 0x3F800000#32
/-- The absolute value. -/
def absR (x : EReal) : EReal := FloatOps.hostAbsf (F := Ideal) (φ := .f32) x
def regR (v : EReal) : EReal := Ideal.ofBits .f32 0x3F800000#32 - Ideal.pow (absR (uR v)) (Ideal.ofBits .f32 0x41000000#32)
def dhR (v : EReal) : EReal :=
  Scalar.select (Ideal.cmp .ogt (tR v) (Ideal.ofBits .f32 0x00000000#32) &&& Ideal.cmp .olt (tR v) (Ideal.ofBits .f32 0x3F800000#32))
    (((6 / 5 : ℝ) : EReal) * sgR v * (Ideal.ofBits .f32 0x3F800000#32 - sgR v)) (Ideal.ofBits .f32 0x00000000#32)
def dregR (v : EReal) : EReal :=
  Ideal.ofBits .f32 0xBB4CCCCD#32 * Ideal.sign (uR v) * Ideal.pow (absR (uR v)) (Ideal.ofBits .f32 0x40E00000#32)
def dvR (g s w v : EReal) : EReal :=
  (Ideal.ofBits .f32 0xB92AAAAB#32 * g * s
      * Scalar.select (Ideal.cmp .ole (preR w v) (Ideal.ofBits .f32 0x40E00000#32)) (Ideal.ofBits .f32 0x3F800000#32) (Ideal.ofBits .f32 0x00000000#32)
    + dregR v) * dhR v

/-! ## They are equal -/

theorem logistic_tanh (r : ℝ) : (1 : ℝ) / (1 + Real.exp (-r)) = (1 + Real.tanh (1 / 2 * r)) / 2 := by
  have ha : 0 < Real.exp (1 / 2 * r) := Real.exp_pos _
  have h1 : Real.exp (-r) = (Real.exp (1 / 2 * r))⁻¹ * (Real.exp (1 / 2 * r))⁻¹ := by
    rw [← Real.exp_neg, ← Real.exp_add]; congr 1; ring
  rw [Real.tanh_eq_sinh_div_cosh, Real.sinh_eq, Real.cosh_eq, h1, Real.exp_neg]
  generalize Real.exp (1 / 2 * r) = a at ha
  have : 0 < a * a + 1 := by positivity
  field_simp
  ring

/-- Both are functions of one real number `z`. -/
theorem real_of (v : EReal) : ∃ z : ℝ, zK v = (z : EReal) ∧ sgR v = (((1 + z) / 2 : ℝ) : EReal) := by
  unfold zK sgR
  rw [c_half, c_one]
  induction v with
  | bot =>
    refine ⟨-1, ?_, ?_⟩
    · rw [EReal.coe_mul_bot_of_pos (by norm_num), Ideal.tanh_bot]; rfl
    · rw [EReal.neg_bot, Ideal.exp_top, EReal.coe_add_top, Ideal.div]; simp
  | coe r =>
    refine ⟨Real.tanh (1 / 2 * r), ?_, ?_⟩
    · rw [← EReal.coe_mul, Ideal.tanh_coe]
    · have hp : (0 : ℝ) < 1 + Real.exp (-r) := by have := Real.exp_pos (-r); linarith
      rw [← EReal.coe_neg, Ideal.exp_coe, ← EReal.coe_add, Ideal.div_coe hp.ne', ← EReal.coe_mul, one_mul, logistic_tanh]
  | top =>
    refine ⟨1, ?_, ?_⟩
    · rw [EReal.coe_mul_top_of_pos (by norm_num), Ideal.tanh_top]; rfl
    · rw [EReal.neg_top, Ideal.exp_bot, add_zero, Ideal.div_coe one_ne_zero, ← EReal.coe_mul]; congr 1; norm_num

theorem coe_min (a b : ℝ) : min (a : EReal) (b : EReal) = ((min a b : ℝ) : EReal) := (EReal.coe_strictMono.monotone.map_min).symm
theorem coe_max (a b : ℝ) : max (a : EReal) (b : EReal) = ((max a b : ℝ) : EReal) := (EReal.coe_strictMono.monotone.map_max).symm

theorem aK_real (v : EReal) (z : ℝ) (hz : zK v = (z : EReal)) : aK v = ((6 / 5 * z : ℝ) : EReal) := by
  unfold aK; rw [hz, ← EReal.coe_mul]
theorem uK_real (v : EReal) (z : ℝ) (hz : zK v = (z : EReal)) : uK v = ((min 1 (max (-1) (6 / 5 * z)) : ℝ) : EReal) := by
  unfold uK; rw [aK_real v z hz, c_one, c_neg_one, coe_max, coe_min]
theorem hK_real (v : EReal) (z : ℝ) (hz : zK v = (z : EReal)) :
    hK v = ((1 / 2 * min 1 (max (-1) (6 / 5 * z)) + 1 / 2 : ℝ) : EReal) := by
  unfold hK; rw [uK_real v z hz, c_half, ← EReal.coe_mul, ← EReal.coe_add]
theorem tR_real (v : EReal) (z : ℝ) (hz : sgR v = (((1 + z) / 2 : ℝ) : EReal)) : tR v = ((3 / 5 * z + 1 / 2 : ℝ) : EReal) := by
  unfold tR; rw [hz, ← EReal.coe_mul, ← EReal.coe_add]; congr 1; ring
theorem clip_real (z : ℝ) : min 1 (max 0 (3 / 5 * z + 1 / 2)) = 1 / 2 * min 1 (max (-1) (6 / 5 * z)) + 1 / 2 := by
  rcases le_total (6 / 5 * z) (-1) with h | h
  · rw [max_eq_left h, max_eq_left (by linarith), min_eq_right (by norm_num), min_eq_right (by norm_num)]; norm_num
  · rw [max_eq_right h, max_eq_right (by linarith)]
    rcases le_total (6 / 5 * z) 1 with h' | h'
    · rw [min_eq_right h', min_eq_right (by linarith)]; ring
    · rw [min_eq_left h', min_eq_left (by linarith)]; norm_num

/-- The rectified sigmoid is one function. -/
theorem h_eq (v : EReal) : hR v = hK v := by
  obtain ⟨z, hz, hs⟩ := real_of v
  rw [hK_real v z hz]
  unfold hR
  rw [tR_real v z hs, c_one, c_zero, coe_max, coe_min, clip_real]
theorem pre_eq (w v : EReal) : preR w v = preK w v := by unfold preR preK; rw [h_eq]
theorem what_eq (s w v : EReal) : whatR s w v = whatK s w v := by unfold whatR whatK; rw [pre_eq]
theorem u_eq (v : EReal) : uR v = uK v := by
  obtain ⟨z, hz, hs⟩ := real_of v
  unfold uR
  rw [h_eq, hK_real v z hz, uK_real v z hz, c_two, c_one, ← EReal.coe_mul, ← EReal.coe_sub]
  congr 1; ring

theorem absR_coe (r : ℝ) : absR (r : EReal) = ((|r| : ℝ) : EReal) := by
  unfold absR
  show max (r : EReal) (-(r : EReal)) = _
  rw [← EReal.coe_neg, coe_max]; rfl

theorem reg_eq (v : EReal) : regR v = regK v := by
  obtain ⟨z, hz, -⟩ := real_of v
  unfold regR regK
  rw [u_eq, uK_real v z hz, absR_coe, c_eight, Ideal.pow_coe_coe]
  generalize min 1 (max (-1) (6 / 5 * z)) = u
  simp only [← EReal.coe_mul]
  congr 2
  show |u| ^ (8 : ℝ) = _
  rw [show (8 : ℝ) = ((8 : ℕ) : ℝ) by norm_num, Real.rpow_natCast, Even.pow_abs (by decide)]
  ring

theorem dreg_eq (v : EReal) : dregR v = dregK v := by
  obtain ⟨z, hz, -⟩ := real_of v
  unfold dregR dregK
  rw [u_eq, uK_real v z hz, absR_coe, c_seven, Ideal.pow_coe_coe, Ideal.sign_coe, c_reg]
  generalize min 1 (max (-1) (6 / 5 * z)) = u
  simp only [← EReal.coe_mul]
  congr 1
  have h7 : Real.rpow |u| 7 = |u| ^ 7 := by
    show |u| ^ (7 : ℝ) = _
    rw [show (7 : ℝ) = ((7 : ℕ) : ℝ) by norm_num, Real.rpow_natCast]
  rw [h7]
  rcases lt_trichotomy u 0 with h | h | h
  · rw [sign_neg h, abs_of_neg h, SignType.coe_neg_one]; ring
  · subst h; simp
  · rw [sign_pos h, abs_of_pos h, SignType.coe_one]; ring

theorem dh_eq (v : EReal) : dhR v = dhK v := by
  obtain ⟨z, hz, hs⟩ := real_of v
  unfold dhR dhK
  rw [tR_real v z hs, aK_real v z hz, hz, hs, c_one, c_zero, c_neg_one]
  have e1 : Ideal.cmp .ogt ((3 / 5 * z + 1 / 2 : ℝ) : EReal) ((0 : ℝ) : EReal) = Ideal.cmp .ogt ((6 / 5 * z : ℝ) : EReal) ((-1 : ℝ) : EReal) := by
    unfold Ideal.cmp; congr 1
    simp only [EReal.coe_lt_coe_iff, decide_eq_decide]
    constructor <;> intro <;> linarith
  have e2 : Ideal.cmp .olt ((3 / 5 * z + 1 / 2 : ℝ) : EReal) ((1 : ℝ) : EReal) = Ideal.cmp .olt ((6 / 5 * z : ℝ) : EReal) ((1 : ℝ) : EReal) := by
    unfold Ideal.cmp; congr 1
    simp only [EReal.coe_lt_coe_iff, decide_eq_decide]
    constructor <;> intro <;> linarith
  rw [e1, e2]
  congr 1
  simp only [← EReal.coe_mul, ← EReal.coe_sub]
  congr 1; ring

/-- One element of the gradient is one function. -/
theorem dv_eq (g s w v : EReal) : dvR g s w v = dvK g s w v := by
  unfold dvR dvK
  rw [dreg_eq, dh_eq, pre_eq]
  congr 2
  by_cases h : Ideal.cmp .ole (preK w v) (Ideal.ofBits .f32 0x40E00000#32) = 1#1
  · rw [h, select_one, select_one, c_one, EReal.coe_one, mul_one]
  · rw [eq_zero_of_ne_one h, select_zero, select_zero, c_zero, EReal.coe_zero, mul_zero]

/-! ## Sums -/

/-- Dividing by a positive real number distributes over sums. -/
theorem div_sum {ι : Type} (s : Finset ι) (f : ι → EReal) {y : ℝ} (hy : 0 < y) :
    ∑ i ∈ s, Ideal.div (f i) (y : EReal) = Ideal.div (∑ i ∈ s, f i) (y : EReal) := by
  classical
  have hy' : (0 : EReal) ≤ ((1 / y : ℝ) : EReal) := EReal.coe_nonneg.mpr (by positivity)
  simp only [Ideal.div_coe hy.ne']
  induction s using Finset.induction_on with
  | empty => simp
  | insert a s ha ih =>
    rw [Finset.sum_insert ha, Finset.sum_insert ha, ih,
      EReal.right_distrib_of_nonneg_of_ne_top hy' (EReal.coe_ne_top _)]

end Cert.Alg

end
-- ==== Proof.Spec.lean ====
module

public import proofs.«01_k».proof.Proof.Algebra

@[expose] public section

noncomputable section

namespace Cert.Spec

open Idealize.ShloMosaic Idealize.ShloMosaic.ValueIdx
open Cert.Alg

/-! # The four results as functions of the arguments

`X` the activations and `Y` the targets, one row a token; `w` the codes; `s` the scale of each column; `v` the rounding variables. -/

variable (X : (⟨2, ![12288, 5120]⟩ : Shape).Idx → EReal) (Y : (⟨2, ![12288, 15360]⟩ : Shape).Idx → EReal)
  (w : (⟨2, ![5120, 15360]⟩ : Shape).Idx → BitVec 8) (s : Fin 15360 → EReal) (v : (⟨2, ![5120, 15360]⟩ : Shape).Idx → EReal)

/-- A dequantized weight. -/
def what (k : Fin 5120) (n : Fin 15360) : EReal := whatK (s n) (FloatOps.sitofp (F := Ideal) .f32 (w (ix2 k n))) (v (ix2 k n))
/-- A residual. -/
def err (m : Fin 12288) (n : Fin 15360) : EReal := Y (ix2 m n) - ∑ k : Fin 5120, X (ix2 m k) * what w s v k n
/-- A column's mean square residual. -/
def recon (n : Fin 15360) : EReal :=
  Ideal.div (∑ m : Fin 12288, err X Y w s v m n * err X Y w s v m n) (Ideal.ofBits .f32 0x46400000#32)
/-- A column's regularizer. -/
def reg (n : Fin 15360) : EReal := Ideal.ofBits .f32 0x394CCCCD#32 * ∑ k : Fin 5120, regK (v (ix2 k n))
/-- An element of the gradient with respect to the rounding variables. -/
def grad (k : Fin 5120) (n : Fin 15360) : EReal :=
  dvK (∑ m : Fin 12288, X (ix2 m k) * err X Y w s v m n) (s n) (FloatOps.sitofp (F := Ideal) .f32 (w (ix2 k n))) (v (ix2 k n))

end Cert.Spec

end
-- ==== Proof.KernelPay.lean ====
module

public import proofs.«01_k».proof.Proof.Algebra
public import proofs.«01_k».proof.Proof.FwdTrip
public import proofs.«01_k».proof.Proof.FwdBody
public import Idealize.ShloMosaic.Lib.MatmulPlain
public import Idealize.ShloMosaic.Lib.ValueLayout
public import Idealize.ShloMosaic.PureOps.IdealRules

@[expose] public section

set_option maxRecDepth 16384

noncomputable section

namespace Cert.KernelIdeal.Hand

open Idealize.ShloMosaic Idealize.ShloMosaic.ValueIdx
open Cert.KernelIdeal Cert.KernelIdeal.Gen
open Cert.Alg

/-! # The kernels' stored values, read at an index over the extended reals

Each printed computation that a kernel stores, at one index, is the elementwise formula of `Algebra.lean` (or one sum). -/

/-- A code as an extended real. -/
abbrev code (b : BitVec 8) : EReal := FloatOps.sitofp (F := Ideal) .f32 b

theorem span_named (b : BitVec 32) : Named.named (F := Ideal) (φ := .f32) κ "span" b = ((6 / 5 : ℝ) : EReal) :=
  IdealRules.named_const.ideal_named_scalar _ _ _ _ rfl
theorem quarter_named (b : BitVec 32) : Named.named (F := Ideal) (φ := .f32) κ "quarter_span" b = ((3 / 10 : ℝ) : EReal) :=
  IdealRules.named_const.ideal_named_scalar _ _ _ _ rfl

/-! ## The forward kernel -/

/-- The clipped, stretched `tanh (v / 2)`. -/
theorem pay8_apply (v : Vec Ideal S256x768 .f32) (i : S256x768.Idx) : k0_pay8 v i = uK (v i) := by
  show min _ (max _ (Named.named (F := Ideal) (φ := .f32) κ "span" 0x3F99999A#32 * _)) = _
  rw [span_named]; rfl

/-- A row of scales, repeated over the rows. -/
theorem bcast768_apply (s : Vec Ideal S1x768 .f32) (i : S256x768.Idx) :
    broadcastTo S256x768 s broadcasts_S1x768_S256x768 i = s (ix2 0 (i 1)) :=
  broadcastTo_apply s _ i _ fun a => match a with | ⟨0, _⟩ => rfl | ⟨1, _⟩ => rfl

/-- The dequantized weight. -/
theorem pay9_apply (v : Vec Ideal S256x768 .f32) (w : Vec Ideal S256x768 .i8) (s : Vec Ideal S1x768 .f32) (i : S256x768.Idx) :
    k0_pay9 v w s i = whatK (s (ix2 0 (i 1))) (code (w i)) (v i) := by
  simp only [k0_pay9, shapeCast_self]
  show broadcastTo S256x768 s broadcasts_S1x768_S256x768 i * min _ (max _ (code (w i) + (_ * k0_pay8 v i + _))) = _
  rw [bcast768_apply, pay8_apply]; rfl

/-- A row vector viewed as a one-row matrix. -/
theorem cast768_apply (x : S768.Idx → EReal) (n : Fin 768) : shapeCast S1x768 x shapeCasts_S768_S1x768 (ix2 0 n) = x (ix1 n) := by
  rw [show shapeCast S1x768 x shapeCasts_S768_S1x768 (ix2 0 n) = x (fun a => (ix2 (n0 := 1) 0 n) a.succ) from
    shapeCast_addUnit_apply ![768] x shapeCasts_S768_S1x768 (ix2 0 n)]
  congr 1; funext a; match a with | ⟨0, _⟩ => rfl

/-- One chunk's contribution to the regularizer's column sums. -/
theorem pay10_apply (acc : FVec Ideal S1x768 .f32) (v : Vec Ideal S256x768 .f32) (n : Fin 768) :
    k0_pay10 acc v (ix2 0 n) = acc (ix2 0 n) + ∑ k : Fin 256, regK (v (ix2 k n)) := by
  have h : k0_pay10 acc v (ix2 0 n) = acc (ix2 0 n) + Ideal.reduceAdd reduces_S256x768_S768 (fun i => Ideal.ofBits .f32 0x3F800000#32
      - (k0_pay8 v i * k0_pay8 v i * (k0_pay8 v i * k0_pay8 v i)) * (k0_pay8 v i * k0_pay8 v i * (k0_pay8 v i * k0_pay8 v i))) (ix1 n) := by
    simp only [k0_pay10]
    exact congrArg (acc (ix2 0 n) + ·) (cast768_apply _ n)
  rw [h, Ideal.reduceAdd_single]
  refine congrArg (acc (ix2 0 n) + ·) (Finset.sum_congr rfl fun k _ => ?_)
  have e : reduces_S256x768_S768.lift (ix1 n) k = ix2 k n := by
    funext a; apply Fin.ext; match a with | ⟨0, _⟩ => rfl | ⟨1, _⟩ => rfl
  rw [e]
  show Ideal.ofBits .f32 0x3F800000#32 - (k0_pay8 v (ix2 k n) * k0_pay8 v (ix2 k n) * (k0_pay8 v (ix2 k n) * k0_pay8 v (ix2 k n)))
    * (k0_pay8 v (ix2 k n) * k0_pay8 v (ix2 k n) * (k0_pay8 v (ix2 k n) * k0_pay8 v (ix2 k n))) = _
  rw [pay8_apply]; rfl

/-- The residual: the target minus the product of the activations with the dequantized weights. -/
theorem pay4_apply (y : Vec Ideal S512x768 .bf16) (x : Vec Ideal S512x5120 .bf16) (w : Vec Ideal S5120x768 .bf16) (m : Fin 512) (n : Fin 768) :
    k0_pay4 y x w (ix2 m n) = y (ix2 m n) - ∑ k : Fin 5120, x (ix2 m k) * w (ix2 k n) := by
  simp only [k0_pay4, shapeCast_self]
  refine congrArg (fun z : EReal => (y (ix2 m n) : EReal) - z) ?_
  refine (Ideal.matmul_plain_apply none x w _ m n).trans ?_
  rw [show (constant (F := Ideal) S512x768 .f32 0x00000000#32) (ix2 m n) = 0 from Ideal.ofBits_zero_f32, zero_add]

/-- One row block's contribution to the reconstruction's column means. -/
theorem pay6_apply (y : Vec Ideal S512x768 .bf16) (x : Vec Ideal S512x5120 .bf16) (w : Vec Ideal S5120x768 .bf16) (acc : Vec Ideal S1x768 .f32) (n : Fin 768) :
    k0_pay6 y x w acc (ix2 0 n) = acc (ix2 0 n)
      + Ideal.div (∑ m : Fin 512, k0_pay4 y x w (ix2 m n) * k0_pay4 y x w (ix2 m n)) (Ideal.ofBits .f32 0x46400000#32) := by
  have h : k0_pay6 y x w acc (ix2 0 n) = acc (ix2 0 n)
      + Ideal.div (Ideal.reduceAdd reduces_S512x768_S768 (fun i => k0_pay4 y x w i * k0_pay4 y x w i) (ix1 n)) (Ideal.ofBits .f32 0x46400000#32) := by
    simp only [k0_pay6, shapeCast_self]
    exact congrArg (fun z : EReal => (acc (ix2 0 n) : EReal) + Ideal.div z (Ideal.ofBits .f32 0x46400000#32)) (cast768_apply _ n)
  rw [h, Ideal.reduceAdd_single]
  refine congrArg (fun z : EReal => (acc (ix2 0 n) : EReal) + Ideal.div z _) (Finset.sum_congr rfl fun k _ => ?_)
  have e : reduces_S512x768_S768.lift (ix1 n) k = ix2 k n := by
    funext a; apply Fin.ext; match a with | ⟨0, _⟩ => rfl | ⟨1, _⟩ => rfl
  rw [e]; rfl

/-- The transposed activations. -/
theorem pay7_apply (x : Vec Ideal S512x256 .bf16) (k : Fin 256) (m : Fin 512) : k0_pay7 x (ix2 k m) = x (ix2 m k) := by
  simp only [k0_pay7, shapeCast_self]; exact transpose_ix2_apply x _ k m

/-- The dequantized weight tile, row by row. -/
theorem whatOf_apply (w : Vec Ideal S5120x768 .i8) (v : Vec Ideal S5120x768 .f32) (s : Vec Ideal S1x768 .f32) (k : Fin 5120) (n : Fin 768) :
    whatOf w v s (ix2 k n) = whatK (s (ix2 0 n)) (code (w (ix2 k n))) (v (ix2 k n)) := by
  unfold whatOf
  rw [pay9_apply]
  have e : (ix2 (⟨(256 * (k.val / 256) + k.val % 256) % 5120, Nat.mod_lt _ (by decide)⟩ : Fin 5120) n : S5120x768.Idx) = ix2 k n := by
    congr 1; apply Fin.ext
    show (256 * (k.val / 256) + k.val % 256) % 5120 = k.val
    rw [Nat.div_add_mod, Nat.mod_eq_of_lt k.isLt]
  show whatK (s (ix2 0 n)) (code (w (ix2 ⟨(256 * (k.val / 256) + k.val % 256) % 5120, _⟩ n))) (v (ix2 ⟨(256 * (k.val / 256) + k.val % 256) % 5120, _⟩ n)) = _
  rw [e]

/-- The regularizer's column sums after `j` chunks: the first `256 j` rows. -/
theorem regFold_apply (v : Vec Ideal S5120x768 .f32) (n : Fin 768) : ∀ j : ℕ, j ≤ 20 →
    regFold v j (ix2 0 n) = ∑ k ∈ Finset.range (256 * j), regK (v (ix2 ⟨k % 5120, Nat.mod_lt _ (by decide)⟩ n))
  | 0, _ => Ideal.ofBits_zero_f32
  | j + 1, hj => by
    rw [regFold, pay10_apply, regFold_apply v n j (by omega), Nat.mul_succ, Finset.sum_range_add,
      Finset.sum_range (n := 256)]
    refine congrArg (_ + ·) (Finset.sum_congr rfl fun k _ => ?_)
    rfl

theorem reg_total (v : Vec Ideal S5120x768 .f32) (n : Fin 768) :
    k0_pay2 (regFold v 20) (ix2 0 n) = Ideal.ofBits .f32 0x394CCCCD#32 * ∑ k : Fin 5120, regK (v (ix2 k n)) := by
  show _ * regFold v 20 (ix2 0 n) = _
  rw [regFold_apply v n 20 le_rfl, Finset.sum_range (n := 256 * 20)]
  refine congrArg (_ * ·) (Finset.sum_congr rfl fun k _ => ?_)
  rw [show (⟨k.val % 5120, Nat.mod_lt _ (by decide)⟩ : Fin 5120) = k from Fin.ext (Nat.mod_eq_of_lt k.isLt)]

/-! ## The backward kernel -/

theorem bpay3_apply (v : Vec Ideal S512x512 .f32) (i : S512x512.Idx) : k1_pay3 v i = zK (v i) := rfl
theorem bpay4_apply (v : Vec Ideal S512x512 .f32) (i : S512x512.Idx) : k1_pay4 v i = aK (v i) := by
  show Named.named (F := Ideal) (φ := .f32) κ "span" 0x3F99999A#32 * _ = _
  rw [span_named]; rfl
theorem bpay5_apply (v : Vec Ideal S512x512 .f32) (i : S512x512.Idx) : k1_pay5 v i = uK (v i) := by
  show min _ (max _ (k1_pay4 v i)) = _
  rw [bpay4_apply]; rfl
theorem bpay6_apply (v : Vec Ideal S512x512 .f32) (w : Vec Ideal S512x512 .i8) (i : S512x512.Idx) :
    k1_pay6 v w i = Ideal.cmp .ole (preK (code (w i)) (v i)) (Ideal.ofBits .f32 0x40E00000#32) := by
  show Ideal.cmp .ole (code (w i) + (_ * k1_pay5 v i + _)) _ = _
  rw [bpay5_apply]; rfl
theorem bpay7_apply (v : Vec Ideal S512x512 .f32) (i : S512x512.Idx) : k1_pay7 v i = dhK (v i) := by
  show Scalar.select (Ideal.cmp .ogt (k1_pay4 v i) _ &&& Ideal.cmp .olt (k1_pay4 v i) _)
    (Named.named (F := Ideal) (φ := .f32) κ "quarter_span" 0x3E99999A#32 * (_ - k1_pay3 v i * k1_pay3 v i)) _ = _
  rw [bpay4_apply, quarter_named]; rfl
theorem bpay8_apply (v : Vec Ideal S512x512 .f32) (i : S512x512.Idx) : k1_pay8 v i = uK (v i) * uK (v i) := by
  show k1_pay5 v i * k1_pay5 v i = _
  rw [bpay5_apply]
theorem bcast512_apply (s : Vec Ideal S1x512 .f32) (i : S512x512.Idx) :
    broadcastTo S512x512 s broadcasts_S1x512_S512x512 i = s (ix2 0 (i 1)) :=
  broadcastTo_apply s _ i _ fun a => match a with | ⟨0, _⟩ => rfl | ⟨1, _⟩ => rfl
/-- The product of the transposed activations with the residuals. -/
theorem bpay2_apply (xt : Vec Ideal S512x12288 .bf16) (e : Vec Ideal S12288x512 .bf16) (k : Fin 512) (n : Fin 512) :
    k1_pay2 xt e (ix2 k n) = ∑ m : Fin 12288, xt (ix2 k m) * e (ix2 m n) := by
  simp only [k1_pay2, shapeCast_self]
  refine (Ideal.matmul_plain_apply none xt e _ k n).trans ?_
  rw [show (constant (F := Ideal) S512x512 .f32 0x00000000#32) (ix2 k n) = 0 from Ideal.ofBits_zero_f32, zero_add]
/-- The gradient. -/
theorem bpay1_apply (xt : Vec Ideal S512x12288 .bf16) (e : Vec Ideal S12288x512 .bf16) (w : Vec Ideal S512x512 .i8) (s : Vec Ideal S1x512 .f32)
    (v : Vec Ideal S512x512 .f32) (k : Fin 512) (n : Fin 512) :
    k1_pay1 (k1_pay2 xt e) (k1_pay5 v) (k1_pay6 v w) (k1_pay7 v) (k1_pay8 v) s (ix2 k n)
      = dvK (∑ m : Fin 12288, xt (ix2 k m) * e (ix2 m n)) (s (ix2 0 n)) (code (w (ix2 k n))) (v (ix2 k n)) := by
  simp only [k1_pay1, shapeCast_self]
  show (Scalar.select (k1_pay6 v w (ix2 k n)) (_ * k1_pay2 xt e (ix2 k n)
      * broadcastTo S512x512 s broadcasts_S1x512_S512x512 (ix2 k n)) _
    + _ * ((k1_pay5 v (ix2 k n) * k1_pay8 v (ix2 k n)) * (k1_pay8 v (ix2 k n) * k1_pay8 v (ix2 k n)))) * k1_pay7 v (ix2 k n) = _
  rw [bcast512_apply, bpay6_apply, bpay2_apply, bpay5_apply, bpay8_apply, bpay7_apply]; rfl

end Cert.KernelIdeal.Hand

end
-- ==== Proof.FwdVal.lean ====
module

public import proofs.«01_k».proof.Proof.KernelPay
public import proofs.«01_k».proof.Proof.FwdDat

@[expose] public section

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open Cert.Alg

/-! # The forward kernel's results over the extended reals

The residuals, the transposed activations, the reconstruction's column means and the regularizer's column sums, each as one
function of the arrays that the region finds. -/

variable (V : (c : Dev nD) → (b : Ref sig .tc) → Buf (Elt Ideal) ((c : Thread nD τ).loc b))

/-- The arrays the region reads, as functions of their indices: activations, targets, codes, scales, rounding variables. -/
abbrev xV (c : Dev nD) : S12288x5120.Idx → EReal := V c main_v0
abbrev yV (c : Dev nD) : S12288x15360.Idx → EReal := V c main_v1
abbrev wV (c : Dev nD) : S5120x15360.Idx → BitVec 8 := V c main_arg2
abbrev sV (c : Dev nD) : S1x15360.Idx → EReal := V c main_v2
abbrev vV (c : Dev nD) : S5120x15360.Idx → EReal := V c main_arg4

/-- A dequantized weight, -/
def whatV (c : Dev nD) (k : Fin 5120) (n : Fin 15360) : EReal := whatK (sV V c (ix2 0 n)) (code (wV V c (ix2 k n))) (vV V c (ix2 k n))
/-- a residual, -/
def errV (c : Dev nD) (m : Fin 12288) (n : Fin 15360) : EReal := yV V c (ix2 m n) - ∑ k : Fin 5120, xV V c (ix2 m k) * whatV V c k n
/-- a column's mean square residual, -/
def recV (c : Dev nD) (n : Fin 15360) : EReal :=
  Ideal.div (∑ m : Fin 12288, errV V c m n * errV V c m n) (Ideal.ofBits .f32 0x46400000#32)
/-- a column's regularizer. -/
def regV (c : Dev nD) (n : Fin 15360) : EReal := Ideal.ofBits .f32 0x394CCCCD#32 * ∑ k : Fin 5120, regK (vV V c (ix2 k n))

/-! ## Where a point's blocks lie -/

theorem lt480 (t : Fin cfg0.N) : t.val < 480 := Nat.lt_of_lt_of_eq t.isLt N_0

theorem coord0_j (t : Fin cfg0.N) : (grid0.coords t 0).val = t.val / 24 := by
  have h := lt480 t
  have e : (grid0.coords t 0).val = t.val / 24 % 20 := Pipeline.Grid.coords_val t 0 (by decide) rfl
  rw [e]; omega
theorem coord0_i (t : Fin cfg0.N) : (grid0.coords t 1).val = t.val % 24 := by
  have e : (grid0.coords t 1).val = t.val / 1 % 24 := Pipeline.Grid.coords_val t 1 (by decide) rfl
  rw [e]; omega
theorem word_j (t : Fin cfg0.N) : (BitVec.ofNat 32 (grid0.coords t 0).val).toNat = t.val / 24 := by
  have h := lt480 t
  rw [coord0_j, BitVec.toNat_ofNat, Nat.mod_eq_of_lt (by omega)]
theorem word_i (t : Fin cfg0.N) : (BitVec.ofNat 32 (grid0.coords t 1).val).toNat = t.val % 24 := by
  rw [coord0_i, BitVec.toNat_ofNat, Nat.mod_eq_of_lt (by omega)]

/-- Row `a` of point `t`'s row block, -/
def rowI (t : Fin cfg0.N) (a : Fin 512) : Fin 12288 := ⟨512 * (t.val % 24) + a.val, by have := a.isLt; omega⟩
/-- column `b` of its column tile, -/
def colJ (t : Fin cfg0.N) (b : Fin 768) : Fin 15360 := ⟨768 * (t.val / 24) + b.val, by have := b.isLt; have := lt480 t; omega⟩
/-- row `a` of its chunk of the transposed activations. -/
def chunkJ (t : Fin cfg0.N) (a : Fin 256) : Fin 5120 := ⟨256 * (t.val / 24) + a.val, by have := a.isLt; have := lt480 t; omega⟩

theorem blk0_0 (c : Dev nD) (t : Fin cfg0.N) (a : Fin 512) (k : Fin 5120) : iblk0 V c 0 t (ix2 a k) = xV V c (ix2 (rowI t a) k) := by
  unfold iblk0; rw [View.read_apply]
  refine congrArg (xV V c) (funext fun x => Fin.ext ?_)
  match x with
  | ⟨0, _⟩ => show (BitVec.ofNat 32 (grid0.coords t 1).val).toNat * 512 + 1 * a.val = 512 * (t.val % 24) + a.val
              rw [word_i]; omega
  | ⟨1, _⟩ => show 0 * 5120 + 1 * k.val = k.val; omega
theorem blk0_1 (c : Dev nD) (t : Fin cfg0.N) (k : Fin 5120) (b : Fin 768) : iblk0 V c 1 t (ix2 k b) = wV V c (ix2 k (colJ t b)) := by
  unfold iblk0; rw [View.read_apply]
  refine congrArg (wV V c) (funext fun x => Fin.ext ?_)
  match x with
  | ⟨0, _⟩ => show 0 * 5120 + 1 * k.val = k.val; omega
  | ⟨1, _⟩ => show (BitVec.ofNat 32 (grid0.coords t 0).val).toNat * 768 + 1 * b.val = 768 * (t.val / 24) + b.val
              rw [word_j]; omega
theorem blk0_2 (c : Dev nD) (t : Fin cfg0.N) (k : Fin 5120) (b : Fin 768) : iblk0 V c 2 t (ix2 k b) = vV V c (ix2 k (colJ t b)) := by
  unfold iblk0; rw [View.read_apply]
  refine congrArg (vV V c) (funext fun x => Fin.ext ?_)
  match x with
  | ⟨0, _⟩ => show 0 * 5120 + 1 * k.val = k.val; omega
  | ⟨1, _⟩ => show (BitVec.ofNat 32 (grid0.coords t 0).val).toNat * 768 + 1 * b.val = 768 * (t.val / 24) + b.val
              rw [word_j]; omega
theorem blk0_3 (c : Dev nD) (t : Fin cfg0.N) (a : Fin 512) (b : Fin 768) : iblk0 V c 3 t (ix2 a b) = yV V c (ix2 (rowI t a) (colJ t b)) := by
  unfold iblk0; rw [View.read_apply]
  refine congrArg (yV V c) (funext fun x => Fin.ext ?_)
  match x with
  | ⟨0, _⟩ => show (BitVec.ofNat 32 (grid0.coords t 1).val).toNat * 512 + 1 * a.val = 512 * (t.val % 24) + a.val
              rw [word_i]; omega
  | ⟨1, _⟩ => show (BitVec.ofNat 32 (grid0.coords t 0).val).toNat * 768 + 1 * b.val = 768 * (t.val / 24) + b.val
              rw [word_j]; omega
theorem blk0_4 (c : Dev nD) (t : Fin cfg0.N) (b : Fin 768) : iblk0 V c 4 t (ix2 0 b) = sV V c (ix2 0 (colJ t b)) := by
  unfold iblk0; rw [View.read_apply]
  refine congrArg (sV V c) (funext fun x => Fin.ext ?_)
  match x with
  | ⟨0, _⟩ => rfl
  | ⟨1, _⟩ => show (BitVec.ofNat 32 (grid0.coords t 0).val).toNat * 768 + 1 * b.val = 768 * (t.val / 24) + b.val
              rw [word_j]; omega

/-! ## A point's computations -/

theorem whatAt_apply (c : Dev nD) (t : Fin cfg0.N) (k : Fin 5120) (b : Fin 768) : whatAt V c t (ix2 k b) = whatV V c k (colJ t b) := by
  unfold whatAt whatV
  rw [whatOf_apply, blk0_1, blk0_2, blk0_4]

theorem pay4_at (c : Dev nD) (t : Fin cfg0.N) (a : Fin 512) (b : Fin 768) :
    k0_pay4 (F := Ideal) (iblk0 V c 3 t) (iblk0 V c 0 t) (whatAt V c t) (ix2 a b) = errV V c (rowI t a) (colJ t b) := by
  rw [pay4_apply, blk0_3]
  unfold errV
  refine congrArg (fun z : EReal => yV V c (ix2 (rowI t a) (colJ t b)) - z) (Finset.sum_congr rfl fun k _ => ?_)
  rw [blk0_0, whatAt_apply]

/-! ## The residuals -/

def errArr (c : Dev nD) : S12288x15360.Idx → EReal := fun i => errV V c (i 0) (i 1)

theorem emb0_5 (t : Fin cfg0.N) (a : Fin 512) (b : Fin 768) :
    ((cfg0.win 5).blk t).view.emb (ix2 a b) = (ix2 (rowI t a) (colJ t b) : S12288x15360.Idx) := by
  refine funext fun x => Fin.ext ?_
  match x with
  | ⟨0, _⟩ => show (BitVec.ofNat 32 (grid0.coords t 1).val).toNat * 512 + 1 * a.val = 512 * (t.val % 24) + a.val
              rw [word_i]; omega
  | ⟨1, _⟩ => show (BitVec.ofNat 32 (grid0.coords t 0).val).toNat * 768 + 1 * b.val = 768 * (t.val / 24) + b.val
              rw [word_j]; omega

theorem flushed0_5 (c : Dev nD) (t : Fin cfg0.N) :
    (dat0 V c).flushed 5 t = ((cfg0.win 5).blk t).view.read (Elt Ideal) (errArr V c) := by
  show (cfg0.win 5).cut (grid0.coords t) ((dat0 V c).after 5 t) = _
  rw [after0_5]
  refine funext fun (i : S512x768.Idx) => ?_
  obtain ⟨a, b, rfl⟩ : ∃ a b, i = ix2 a b := ⟨_, _, eq_ix2 i⟩
  exact (pay4_at V c t a b).trans (congrArg (errArr V c) (emb0_5 t a b)).symm

theorem cover0_5 (i : S12288x15360.Idx) : ∃ t : Fin cfg0.N, (cfg0.win 5).flush t = true ∧ i ∈ ((cfg0.win 5).blk t).view.set := by
  have h0 := idx2_lt0 i
  have h1 := idx2_lt1 i
  have ht : 24 * ((i 1).val / 768) + (i 0).val / 512 < cfg0.N := Nat.lt_of_lt_of_eq (m := 480) (by omega) N_0.symm
  refine ⟨⟨_, ht⟩, flush0_5 _, Finset.mem_map.mpr ⟨ix2 (n0 := 512) (n1 := 768) ⟨(i 0).val % 512, Nat.mod_lt _ (by decide)⟩ ⟨(i 1).val % 768, Nat.mod_lt _ (by decide)⟩, Finset.mem_univ _, ?_⟩⟩
  rw [emb0_5]
  refine Eq.trans ?_ (eq_ix2 i).symm
  congr 1 <;> apply Fin.ext
  · show 512 * ((24 * ((i 1).val / 768) + (i 0).val / 512) % 24) + (i 0).val % 512 = (i 0).val; omega
  · show 768 * ((24 * ((i 1).val / 768) + (i 0).val / 512) / 24) + (i 1).val % 768 = (i 1).val; omega

theorem arr0_5 (c : Dev nD) : (dat0 V c).arrAt 5 cfg0.N = errArr V c :=
  (dat0 V c).arrAt_eq_of_cover 5 (errArr V c) (fun t _ => flushed0_5 V c t) cover0_5

/-! ## The transposed activations -/

def xtArr (c : Dev nD) : S5120x12288.Idx → EReal := fun i => xV V c (ix2 (i 1) (i 0))

theorem emb0_6 (t : Fin cfg0.N) (a : Fin 256) (b : Fin 512) :
    ((cfg0.win 6).blk t).view.emb (ix2 a b) = (ix2 (chunkJ t a) (rowI t b) : S5120x12288.Idx) := by
  refine funext fun x => Fin.ext ?_
  match x with
  | ⟨0, _⟩ => show (BitVec.ofNat 32 (grid0.coords t 0).val).toNat * 256 + 1 * a.val = 256 * (t.val / 24) + a.val
              rw [word_j]; omega
  | ⟨1, _⟩ => show (BitVec.ofNat 32 (grid0.coords t 1).val).toNat * 512 + 1 * b.val = 512 * (t.val % 24) + b.val
              rw [word_i]; omega

theorem flushed0_6 (c : Dev nD) (t : Fin cfg0.N) :
    (dat0 V c).flushed 6 t = ((cfg0.win 6).blk t).view.read (Elt Ideal) (xtArr V c) := by
  show (cfg0.win 6).cut (grid0.coords t) ((dat0 V c).after 6 t) = _
  rw [after0_6]
  refine funext fun (i : S256x512.Idx) => ?_
  obtain ⟨a, b, rfl⟩ : ∃ a b, i = ix2 a b := ⟨_, _, eq_ix2 i⟩
  refine (pay7_apply _ a b).trans (Eq.trans ?_ (congrArg (xtArr V c) (emb0_6 t a b)).symm)
  have e : (⟨(256 * (grid0.coords t 0).val + a.val) % 5120, Nat.mod_lt _ (by decide)⟩ : Fin 5120) = chunkJ t a := by
    have := lt480 t; have := a.isLt
    apply Fin.ext
    show (256 * (grid0.coords t 0).val + a.val) % 5120 = 256 * (t.val / 24) + a.val
    rw [coord0_j, Nat.mod_eq_of_lt (by omega)]
  show iblk0 V c 0 t (ix2 b ⟨(256 * (grid0.coords t 0).val + a.val) % 5120, _⟩) = xV V c (ix2 (rowI t b) (chunkJ t a))
  rw [e, blk0_0]

theorem cover0_6 (i : S5120x12288.Idx) : ∃ t : Fin cfg0.N, (cfg0.win 6).flush t = true ∧ i ∈ ((cfg0.win 6).blk t).view.set := by
  have h0 := idx2_lt0 i
  have h1 := idx2_lt1 i
  have ht : 24 * ((i 0).val / 256) + (i 1).val / 512 < cfg0.N := Nat.lt_of_lt_of_eq (m := 480) (by omega) N_0.symm
  refine ⟨⟨_, ht⟩, flush0_6 _, Finset.mem_map.mpr ⟨ix2 (n0 := 256) (n1 := 512) ⟨(i 0).val % 256, Nat.mod_lt _ (by decide)⟩ ⟨(i 1).val % 512, Nat.mod_lt _ (by decide)⟩, Finset.mem_univ _, ?_⟩⟩
  rw [emb0_6]
  refine Eq.trans ?_ (eq_ix2 i).symm
  congr 1 <;> apply Fin.ext
  · show 256 * ((24 * ((i 0).val / 256) + (i 1).val / 512) / 24) + (i 0).val % 256 = (i 0).val; omega
  · show 512 * ((24 * ((i 0).val / 256) + (i 1).val / 512) % 24) + (i 1).val % 512 = (i 1).val; omega

theorem arr0_6 (c : Dev nD) : (dat0 V c).arrAt 6 cfg0.N = xtArr V c :=
  (dat0 V c).arrAt_eq_of_cover 6 (xtArr V c) (fun t _ => flushed0_6 V c t) cover0_6

/-! ## The reconstruction's column means -/

/-- A residual's square, the rows numbered by naturals. -/
def sqV (c : Dev nD) (n : Fin 15360) (m : ℕ) : EReal :=
  errV V c ⟨m % 12288, Nat.mod_lt _ (by decide)⟩ n * errV V c ⟨m % 12288, Nat.mod_lt _ (by decide)⟩ n

theorem sqV_fin (c : Dev nD) (n : Fin 15360) (m : Fin 12288) : sqV V c n m.val = errV V c m n * errV V c m n := by
  unfold sqV
  rw [show (⟨m.val % 12288, Nat.mod_lt _ (by decide)⟩ : Fin 12288) = m from Fin.ext (Nat.mod_eq_of_lt m.isLt)]

/-- Row block `i`'s part of a column's mean. -/
def partV (c : Dev nD) (n : Fin 15360) (i : ℕ) : EReal :=
  Ideal.div (∑ a : Fin 512, sqV V c n (512 * i + a.val)) (Ideal.ofBits .f32 0x46400000#32)

theorem step_part (c : Dev nD) (t : Fin cfg0.N) (acc : Vec Ideal S1x768 .f32) (b : Fin 768) :
    k0_pay6 (F := Ideal) (iblk0 V c 3 t) (iblk0 V c 0 t) (whatAt V c t) acc (ix2 0 b) = acc (ix2 0 b) + partV V c (colJ t b) (t.val % 24) := by
  rw [pay6_apply]
  unfold partV
  refine congrArg (fun z : EReal => (acc (ix2 0 b) : EReal) + Ideal.div z _) (Finset.sum_congr rfl fun a _ => ?_)
  rw [pay4_at]
  exact (sqV_fin V c (colJ t b) (rowI t a)).symm

theorem recAt_apply (c : Dev nD) (b : Fin 768) : ∀ (n : ℕ) (h : n < cfg0.N),
    recAt V c n h (ix2 0 b) = ∑ i ∈ Finset.range (n % 24 + 1), partV V c (colJ ⟨n, h⟩ b) i
  | n, h => by
    by_cases h0 : n % 24 = 0
    · rw [recAt_first V c n h h0, step_part]
      rw [h0, Finset.sum_range_one]
      rw [show (k0_pay3 (F := Ideal)) (ix2 0 b) = 0 from Ideal.ofBits_zero_f32, zero_add]
    · cases n with
      | zero => exact absurd rfl h0
      | succ n =>
        rw [recAt_next V c n h h0, step_part, recAt_apply c b n (Nat.lt_of_succ_lt h)]
        have e : colJ ⟨n, Nat.lt_of_succ_lt h⟩ b = colJ ⟨n + 1, h⟩ b := by
          apply Fin.ext; show 768 * (n / 24) + b.val = 768 * ((n + 1) / 24) + b.val; omega
        have e2 : (n + 1) % 24 = n % 24 + 1 := by omega
        rw [e, e2, Finset.sum_range_succ _ (n % 24 + 1)]

theorem sum_blocks (f : ℕ → EReal) : ∀ j : ℕ, ∑ i ∈ Finset.range j, ∑ a : Fin 512, f (512 * i + a.val) = ∑ m ∈ Finset.range (512 * j), f m
  | 0 => by simp
  | j + 1 => by
    rw [Finset.sum_range_succ, sum_blocks f j, Nat.mul_succ, Finset.sum_range_add, Finset.sum_range (n := 512)]

theorem rec_total (c : Dev nD) (n : Fin 15360) : ∑ i ∈ Finset.range 24, partV V c n i = recV V c n := by
  unfold partV recV
  rw [c_tokens, div_sum _ _ (by norm_num)]
  refine congrArg (fun z : EReal => Ideal.div z _) ?_
  rw [sum_blocks (sqV V c n) 24, show 512 * 24 = 12288 from rfl, Finset.sum_range]
  exact Finset.sum_congr rfl fun m _ => sqV_fin V c n m

def recArr (c : Dev nD) : S1x15360.Idx → EReal := fun i => recV V c (i 1)

theorem emb0_7 (t : Fin cfg0.N) (b : Fin 768) :
    ((cfg0.win 7).blk t).view.emb (ix2 0 b) = (ix2 0 (colJ t b) : S1x15360.Idx) := by
  refine funext fun x => Fin.ext ?_
  match x with
  | ⟨0, _⟩ => rfl
  | ⟨1, _⟩ => show (BitVec.ofNat 32 (grid0.coords t 0).val).toNat * 768 + 1 * b.val = 768 * (t.val / 24) + b.val
              rw [word_j]; omega

theorem eq_row {n : ℕ} (i : (⟨2, ![1, n]⟩ : Shape).Idx) : i = ix2 0 (i 1) := by
  have h := idx2_lt0 i
  refine (eq_ix2 i).trans ?_
  congr 1; apply Fin.ext; show (i 0).val = 0; omega

theorem flushed0_7 (c : Dev nD) (t : Fin cfg0.N) (hf : (cfg0.win 7).flush t = true) :
    (dat0 V c).flushed 7 t = ((cfg0.win 7).blk t).view.read (Elt Ideal) (recArr V c) := by
  show (cfg0.win 7).cut (grid0.coords t) ((dat0 V c).after 7 t) = _
  rw [after0_7]
  refine funext fun (i : S1x768.Idx) => ?_
  obtain ⟨b, rfl⟩ : ∃ b, i = ix2 0 b := ⟨_, eq_row i⟩
  refine (recAt_apply V c b t.val t.isLt).trans (Eq.trans ?_ (congrArg (recArr V c) (emb0_7 t b)).symm)
  rw [(flush0_7 t).mp hf]
  exact rec_total V c (colJ t b)

theorem cover0_7 (i : S1x15360.Idx) : ∃ t : Fin cfg0.N, (cfg0.win 7).flush t = true ∧ i ∈ ((cfg0.win 7).blk t).view.set := by
  have h1 := idx2_lt1 i
  have ht : 24 * ((i 1).val / 768) + 23 < cfg0.N := Nat.lt_of_lt_of_eq (m := 480) (by omega) N_0.symm
  refine ⟨⟨_, ht⟩, (flush0_7 _).mpr (by show (24 * ((i 1).val / 768) + 23) % 24 = 23; omega),
    Finset.mem_map.mpr ⟨ix2 (n0 := 1) (n1 := 768) 0 ⟨(i 1).val % 768, Nat.mod_lt _ (by decide)⟩, Finset.mem_univ _, ?_⟩⟩
  rw [emb0_7]
  refine Eq.trans ?_ (eq_row i).symm
  congr 1; apply Fin.ext
  show 768 * ((24 * ((i 1).val / 768) + 23) / 24) + (i 1).val % 768 = (i 1).val; omega

theorem arr0_7 (c : Dev nD) : (dat0 V c).arrAt 7 cfg0.N = recArr V c :=
  (dat0 V c).arrAt_eq_of_cover 7 (recArr V c) (fun t hf => flushed0_7 V c t hf) cover0_7

/-! ## The regularizer's column sums -/

def regArr (c : Dev nD) : S1x15360.Idx → EReal := fun i => regV V c (i 1)

theorem emb0_8 (t : Fin cfg0.N) (b : Fin 768) :
    ((cfg0.win 8).blk t).view.emb (ix2 0 b) = (ix2 0 (colJ t b) : S1x15360.Idx) := by
  refine funext fun x => Fin.ext ?_
  match x with
  | ⟨0, _⟩ => rfl
  | ⟨1, _⟩ => show (BitVec.ofNat 32 (grid0.coords t 0).val).toNat * 768 + 1 * b.val = 768 * (t.val / 24) + b.val
              rw [word_j]; omega

theorem flushed0_8 (c : Dev nD) (t : Fin cfg0.N) :
    (dat0 V c).flushed 8 t = ((cfg0.win 8).blk t).view.read (Elt Ideal) (regArr V c) := by
  show (cfg0.win 8).cut (grid0.coords t) ((dat0 V c).after 8 t) = _
  rw [after0_8]
  refine funext fun (i : S1x768.Idx) => ?_
  obtain ⟨b, rfl⟩ : ∃ b, i = ix2 0 b := ⟨_, eq_row i⟩
  refine (reg_total (iblk0 V c 2 t) b).trans (Eq.trans ?_ (congrArg (regArr V c) (emb0_8 t b)).symm)
  show _ = regV V c (colJ t b)
  unfold regV
  refine congrArg (Ideal.ofBits .f32 0x394CCCCD#32 * ·) (Finset.sum_congr rfl fun k _ => ?_)
  rw [blk0_2]

theorem cover0_8 (i : S1x15360.Idx) : ∃ t : Fin cfg0.N, (cfg0.win 8).flush t = true ∧ i ∈ ((cfg0.win 8).blk t).view.set := by
  have h1 := idx2_lt1 i
  have ht : 24 * ((i 1).val / 768) + 23 < cfg0.N := Nat.lt_of_lt_of_eq (m := 480) (by omega) N_0.symm
  refine ⟨⟨_, ht⟩, (flush0_8 _).mpr (by show (24 * ((i 1).val / 768) + 23) % 24 = 23; omega),
    Finset.mem_map.mpr ⟨ix2 (n0 := 1) (n1 := 768) 0 ⟨(i 1).val % 768, Nat.mod_lt _ (by decide)⟩, Finset.mem_univ _, ?_⟩⟩
  rw [emb0_8]
  refine Eq.trans ?_ (eq_row i).symm
  congr 1; apply Fin.ext
  show 768 * ((24 * ((i 1).val / 768) + 23) / 24) + (i 1).val % 768 = (i 1).val; omega

theorem arr0_8 (c : Dev nD) : (dat0 V c).arrAt 8 cfg0.N = regArr V c :=
  (dat0 V c).arrAt_eq_of_cover 8 (regArr V c) (fun t _ => flushed0_8 V c t) cover0_8

end Cert.KernelIdeal.Hand

end
-- ==== Proof.BwdVal.lean ====
module

public import proofs.«01_k».proof.Proof.KernelPay
public import proofs.«01_k».proof.Proof.Bwd

@[expose] public section

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open Cert.Alg

/-! # The backward kernel's result over the extended reals

The gradient, as one function of the arrays that the region finds. -/

variable (V : (c : Dev nD) → (b : Ref sig .tc) → Buf (Elt Ideal) ((c : Thread nD τ).loc b))

/-- The arrays the region reads: transposed activations, residuals, codes, scales, rounding variables. -/
abbrev xB (c : Dev nD) : S5120x12288.Idx → EReal := V c main_v3_1
abbrev eB (c : Dev nD) : S12288x15360.Idx → EReal := V c main_v3_0
abbrev wB (c : Dev nD) : S5120x15360.Idx → BitVec 8 := V c main_arg2
abbrev sB (c : Dev nD) : S1x15360.Idx → EReal := V c main_v2
abbrev vB (c : Dev nD) : S5120x15360.Idx → EReal := V c main_arg4

/-- An element of the gradient. -/
def gradV (c : Dev nD) (k : Fin 5120) (n : Fin 15360) : EReal :=
  dvK (∑ m : Fin 12288, xB V c (ix2 k m) * eB V c (ix2 m n)) (sB V c (ix2 0 n)) (code (wB V c (ix2 k n))) (vB V c (ix2 k n))

/-! ## Where a point's blocks lie -/

theorem lt300 (t : Fin cfg1.N) : t.val < 300 := Nat.lt_of_lt_of_eq t.isLt N_1

theorem word1_j (t : Fin cfg1.N) : (BitVec.ofNat 32 (grid1.coords t 0).val).toNat = t.val / 10 := by
  have h := lt300 t
  have e : (grid1.coords t 0).val = t.val / 10 % 30 := Pipeline.Grid.coords_val t 0 (by decide) rfl
  rw [e, BitVec.toNat_ofNat, Nat.mod_eq_of_lt (by omega)]; omega
theorem word1_i (t : Fin cfg1.N) : (BitVec.ofNat 32 (grid1.coords t 1).val).toNat = t.val % 10 := by
  have e : (grid1.coords t 1).val = t.val / 1 % 10 := Pipeline.Grid.coords_val t 1 (by decide) rfl
  rw [e, BitVec.toNat_ofNat, Nat.mod_eq_of_lt (by omega)]; omega

/-- Row `a` of point `t`'s chunk, -/
def chunkR (t : Fin cfg1.N) (a : Fin 512) : Fin 5120 := ⟨512 * (t.val % 10) + a.val, by have := a.isLt; omega⟩
/-- column `b` of its column tile. -/
def tileC (t : Fin cfg1.N) (b : Fin 512) : Fin 15360 := ⟨512 * (t.val / 10) + b.val, by have := b.isLt; have := lt300 t; omega⟩

theorem blk1_0 (c : Dev nD) (t : Fin cfg1.N) (a : Fin 512) (m : Fin 12288) : iblk1 V c 0 t (ix2 a m) = xB V c (ix2 (chunkR t a) m) := by
  unfold iblk1; rw [View.read_apply]
  refine congrArg (xB V c) (funext fun x => Fin.ext ?_)
  match x with
  | ⟨0, _⟩ => show (BitVec.ofNat 32 (grid1.coords t 1).val).toNat * 512 + 1 * a.val = 512 * (t.val % 10) + a.val
              rw [word1_i]; omega
  | ⟨1, _⟩ => show 0 * 12288 + 1 * m.val = m.val; omega
theorem blk1_1 (c : Dev nD) (t : Fin cfg1.N) (m : Fin 12288) (b : Fin 512) : iblk1 V c 1 t (ix2 m b) = eB V c (ix2 m (tileC t b)) := by
  unfold iblk1; rw [View.read_apply]
  refine congrArg (eB V c) (funext fun x => Fin.ext ?_)
  match x with
  | ⟨0, _⟩ => show 0 * 12288 + 1 * m.val = m.val; omega
  | ⟨1, _⟩ => show (BitVec.ofNat 32 (grid1.coords t 0).val).toNat * 512 + 1 * b.val = 512 * (t.val / 10) + b.val
              rw [word1_j]; omega
theorem blk1_2 (c : Dev nD) (t : Fin cfg1.N) (a b : Fin 512) : iblk1 V c 2 t (ix2 a b) = wB V c (ix2 (chunkR t a) (tileC t b)) := by
  unfold iblk1; rw [View.read_apply]
  refine congrArg (wB V c) (funext fun x => Fin.ext ?_)
  match x with
  | ⟨0, _⟩ => show (BitVec.ofNat 32 (grid1.coords t 1).val).toNat * 512 + 1 * a.val = 512 * (t.val % 10) + a.val
              rw [word1_i]; omega
  | ⟨1, _⟩ => show (BitVec.ofNat 32 (grid1.coords t 0).val).toNat * 512 + 1 * b.val = 512 * (t.val / 10) + b.val
              rw [word1_j]; omega
theorem blk1_3 (c : Dev nD) (t : Fin cfg1.N) (b : Fin 512) : iblk1 V c 3 t (ix2 0 b) = sB V c (ix2 0 (tileC t b)) := by
  unfold iblk1; rw [View.read_apply]
  refine congrArg (sB V c) (funext fun x => Fin.ext ?_)
  match x with
  | ⟨0, _⟩ => rfl
  | ⟨1, _⟩ => show (BitVec.ofNat 32 (grid1.coords t 0).val).toNat * 512 + 1 * b.val = 512 * (t.val / 10) + b.val
              rw [word1_j]; omega
theorem blk1_4 (c : Dev nD) (t : Fin cfg1.N) (a b : Fin 512) : iblk1 V c 4 t (ix2 a b) = vB V c (ix2 (chunkR t a) (tileC t b)) := by
  unfold iblk1; rw [View.read_apply]
  refine congrArg (vB V c) (funext fun x => Fin.ext ?_)
  match x with
  | ⟨0, _⟩ => show (BitVec.ofNat 32 (grid1.coords t 1).val).toNat * 512 + 1 * a.val = 512 * (t.val % 10) + a.val
              rw [word1_i]; omega
  | ⟨1, _⟩ => show (BitVec.ofNat 32 (grid1.coords t 0).val).toNat * 512 + 1 * b.val = 512 * (t.val / 10) + b.val
              rw [word1_j]; omega

/-! ## The gradient -/

theorem zero_offsets : (fun a => (![0, 0] : Fin 2 → ℕ) a) = fun _ => 0 := by funext a; match a with | ⟨0, _⟩ => rfl | ⟨1, _⟩ => rfl

/-- What the body leaves is the payload at the blocks themselves: every access is to a whole buffer. -/
theorem out1_5_eq (x0 : Vec Ideal S512x12288 .bf16) (x1 : Vec Ideal S12288x512 .bf16) (x2 : Vec Ideal S512x512 .i8) (x3 : Vec Ideal S1x512 .f32) (x4 : Vec Ideal S512x512 .f32) :
    out1_5 x0 x1 x2 x3 x4 = k1_pay1 (k1_pay2 x0 x1) (k1_pay5 x4) (k1_pay6 x4 x2) (k1_pay7 x4) (k1_pay8 x4) x3 := by
  unfold out1_5
  rw [View.canon_unit_zero zero_offsets, View.ld_unit_zero zero_offsets, View.ld_unit_zero zero_offsets, View.ld_unit_zero zero_offsets,
    View.ld_unit_zero zero_offsets, View.ld_unit_zero zero_offsets]

def gradArr (c : Dev nD) : S5120x15360.Idx → EReal := fun i => gradV V c (i 0) (i 1)

theorem emb1_5 (t : Fin cfg1.N) (a b : Fin 512) :
    ((cfg1.win 5).blk t).view.emb (ix2 a b) = (ix2 (chunkR t a) (tileC t b) : S5120x15360.Idx) := by
  refine funext fun x => Fin.ext ?_
  match x with
  | ⟨0, _⟩ => show (BitVec.ofNat 32 (grid1.coords t 1).val).toNat * 512 + 1 * a.val = 512 * (t.val % 10) + a.val
              rw [word1_i]; omega
  | ⟨1, _⟩ => show (BitVec.ofNat 32 (grid1.coords t 0).val).toNat * 512 + 1 * b.val = 512 * (t.val / 10) + b.val
              rw [word1_j]; omega

theorem flushed1_5 (c : Dev nD) (t : Fin cfg1.N) :
    (dat1 V c).flushed 5 t = ((cfg1.win 5).blk t).view.read (Elt Ideal) (gradArr V c) := by
  show (cfg1.win 5).cut (grid1.coords t) ((dat1 V c).after 5 t) = _
  rw [after1_5, out1_5_eq]
  refine funext fun (i : S512x512.Idx) => ?_
  obtain ⟨a, b, rfl⟩ : ∃ a b, i = ix2 a b := ⟨_, _, eq_ix2 i⟩
  refine (bpay1_apply (iblk1 V c 0 t) (iblk1 V c 1 t) (iblk1 V c 2 t) (iblk1 V c 3 t) (iblk1 V c 4 t) a b).trans
    (Eq.trans ?_ (congrArg (gradArr V c) (emb1_5 t a b)).symm)
  show _ = gradV V c (chunkR t a) (tileC t b)
  unfold gradV
  rw [blk1_2, blk1_3, blk1_4]
  refine congrArg (fun z : EReal => dvK z _ _ _) (Finset.sum_congr rfl fun m _ => ?_)
  rw [blk1_0, blk1_1]

theorem cover1_5v (i : S5120x15360.Idx) : ∃ t : Fin cfg1.N, (cfg1.win 5).flush t = true ∧ i ∈ ((cfg1.win 5).blk t).view.set := by
  have h0 := idx2_lt0 i
  have h1 := idx2_lt1 i
  have ht : 10 * ((i 1).val / 512) + (i 0).val / 512 < cfg1.N := Nat.lt_of_lt_of_eq (m := 300) (by omega) N_1.symm
  refine ⟨⟨_, ht⟩, flush1_5 _, Finset.mem_map.mpr ⟨ix2 (n0 := 512) (n1 := 512) ⟨(i 0).val % 512, Nat.mod_lt _ (by decide)⟩ ⟨(i 1).val % 512, Nat.mod_lt _ (by decide)⟩, Finset.mem_univ _, ?_⟩⟩
  rw [emb1_5]
  refine Eq.trans ?_ (eq_ix2 i).symm
  congr 1 <;> apply Fin.ext
  · show 512 * ((10 * ((i 1).val / 512) + (i 0).val / 512) % 10) + (i 0).val % 512 = (i 0).val; omega
  · show 512 * ((10 * ((i 1).val / 512) + (i 0).val / 512) / 10) + (i 1).val % 512 = (i 1).val; omega

theorem arr1_5 (c : Dev nD) : (dat1 V c).arrAt 5 cfg1.N = gradArr V c :=
  (dat1 V c).arrAt_eq_of_cover 5 (gradArr V c) (fun t _ => flushed1_5 V c t) cover1_5v

end Cert.KernelIdeal.Hand

end
-- ==== Proof.KernelValue.lean ====
module

public import proofs.«01_k».proof.Proof.Spec
public import proofs.«01_k».proof.Proof.FwdVal
public import proofs.«01_k».proof.Proof.BwdVal
public import proofs.«01_k».proof.Proof.Run

@[expose] public section

set_option maxRecDepth 16384

noncomputable section

namespace Cert.KernelIdeal.Hand

open Idealize.ShloMosaic Idealize.ShloMosaic.TcCoe Idealize.ShloMosaic.ValueIdx Idealize.ShloMosaic.StableHlo
open Cert.KernelIdeal Cert.KernelIdeal.Gen
open Cert.Alg

/-! # The kernel's four results over the extended reals

The two regions' arrays, put together through the reshapes before, between and after them. -/

variable (m : (ℓ : Loc nD τ sig) → Buf (Elt Ideal) ℓ)

/-- The activations and the targets, one row a token; the codes; the scale of each column; the rounding variables. -/
def argX (c : Dev nD) : S12288x5120.Idx → EReal := shapeCast S12288x5120 (m ((c : Thread nD τ).loc main_arg0)) shapeCasts_S6x2048x5120_S12288x5120
def argY (c : Dev nD) : S12288x15360.Idx → EReal := shapeCast S12288x15360 (m ((c : Thread nD τ).loc main_arg1)) shapeCasts_S6x2048x15360_S12288x15360
def argW (c : Dev nD) : S5120x15360.Idx → BitVec 8 := m ((c : Thread nD τ).loc main_arg2)
def argS (c : Dev nD) (n : Fin 15360) : EReal := (m ((c : Thread nD τ).loc main_arg3) : S15360.Idx → EReal) (ix1 n)
def argV (c : Dev nD) : S5120x15360.Idx → EReal := m ((c : Thread nD τ).loc main_arg4)

theorem E1_v0 (c : Dev nD) : E1 m c main_v0 = argX m c := by
  show StableHlo.after hostOps0 (V0 m c) (Proc.devRef .tc main_v0) = _
  after_results <;> rfl
theorem E1_v1 (c : Dev nD) : E1 m c main_v1 = argY m c := by
  show StableHlo.after hostOps0 (V0 m c) (Proc.devRef .tc main_v1) = _
  after_results <;> rfl
theorem E1_v2 (c : Dev nD) : E1 m c main_v2 = shapeCast S1x15360 (m ((c : Thread nD τ).loc main_arg3)) shapeCasts_S15360_S1x15360 := by
  show StableHlo.after hostOps0 (V0 m c) (Proc.devRef .tc main_v2) = _
  after_results <;> rfl
theorem E1_v2_apply (c : Dev nD) (n : Fin 15360) : sV (E1 m) c (ix2 0 n) = argS m c n := by
  show (E1 m c main_v2 : S1x15360.Idx → EReal) (ix2 0 n) = _
  rw [E1_v2]
  refine (shapeCast_addUnit_apply ![15360] (m ((c : Thread nD τ).loc main_arg3)) shapeCasts_S15360_S1x15360 (ix2 0 n)).trans ?_
  refine congrArg (m ((c : Thread nD τ).loc main_arg3) : S15360.Idx → EReal) (funext fun a => ?_)
  match a with | ⟨0, _⟩ => rfl
theorem E1_arg2 (c : Dev nD) : E1 m c main_arg2 = argW m c := W1_keeps m c main_arg2 (by decide)
theorem E1_arg4 (c : Dev nD) : E1 m c main_arg4 = argV m c := W1_keeps m c main_arg4 (by decide)

/-! ## The forward kernel's arrays -/

theorem whatV_eq (c : Dev nD) (k : Fin 5120) (n : Fin 15360) : whatV (E1 m) c k n = Spec.what (argW m c) (argS m c) (argV m c) k n := by
  unfold whatV Spec.what
  rw [E1_v2_apply, show wV (E1 m) c = argW m c from E1_arg2 m c, show vV (E1 m) c = argV m c from E1_arg4 m c]
theorem errV_eq (c : Dev nD) (a : Fin 12288) (n : Fin 15360) :
    errV (E1 m) c a n = Spec.err (argX m c) (argY m c) (argW m c) (argS m c) (argV m c) a n := by
  unfold errV Spec.err
  simp only [whatV_eq]
  rw [show xV (E1 m) c = argX m c from E1_v0 m c, show yV (E1 m) c = argY m c from E1_v1 m c]
theorem recV_eq (c : Dev nD) (n : Fin 15360) :
    recV (E1 m) c n = Spec.recon (argX m c) (argY m c) (argW m c) (argS m c) (argV m c) n := by
  unfold recV Spec.recon
  simp only [errV_eq]
theorem regV_eq (c : Dev nD) (n : Fin 15360) : regV (E1 m) c n = Spec.reg (argV m c) n := by
  unfold regV Spec.reg
  rw [show vV (E1 m) c = argV m c from E1_arg4 m c]

/-! ## The backward kernel's array -/

theorem E2_e (c : Dev nD) (a : Fin 12288) (n : Fin 15360) :
    eB (E2 m) c (ix2 a n) = Spec.err (argX m c) (argY m c) (argW m c) (argS m c) (argV m c) a n := by
  show (W2 m c (Proc.devRef .tc main_v3_0) : S12288x15360.Idx → EReal) (ix2 a n) = _
  rw [show W2 m c (Proc.devRef .tc main_v3_0) = errArr (E1 m) c from (W2_arr m c 5).trans (arr0_5 (E1 m) c)]
  exact errV_eq m c a n
theorem E2_xt (c : Dev nD) (k : Fin 5120) (a : Fin 12288) : xB (E2 m) c (ix2 k a) = argX m c (ix2 a k) := by
  show (W2 m c (Proc.devRef .tc main_v3_1) : S5120x12288.Idx → EReal) (ix2 k a) = _
  rw [show W2 m c (Proc.devRef .tc main_v3_1) = xtArr (E1 m) c from (W2_arr m c 6).trans (arr0_6 (E1 m) c)]
  show xV (E1 m) c (ix2 a k) = _
  rw [show xV (E1 m) c = argX m c from E1_v0 m c]
theorem E2_arg2 (c : Dev nD) : E2 m c main_arg2 = argW m c := (W2_keeps m c main_arg2 (by decide)).trans (E1_arg2 m c)
theorem E2_arg4 (c : Dev nD) : E2 m c main_arg4 = argV m c := (W2_keeps m c main_arg4 (by decide)).trans (E1_arg4 m c)
theorem E2_s (c : Dev nD) (n : Fin 15360) : sB (E2 m) c (ix2 0 n) = argS m c n := by
  rw [show sB (E2 m) c = sV (E1 m) c from W2_keeps m c main_v2 (by decide)]
  exact E1_v2_apply m c n

theorem gradV_eq (c : Dev nD) (k : Fin 5120) (n : Fin 15360) :
    gradV (E2 m) c k n = Spec.grad (argX m c) (argY m c) (argW m c) (argS m c) (argV m c) k n := by
  unfold gradV Spec.grad
  simp only [E2_e, E2_xt]
  rw [E2_s, show wB (E2 m) c = argW m c from E2_arg2 m c, show vB (E2 m) c = argV m c from E2_arg4 m c]

/-! ## The results -/

theorem W4_v4 (c : Dev nD) (k : Fin 5120) (n : Fin 15360) : (W4 m c (Proc.devRef .tc main_v4) : S5120x15360.Idx → EReal) (ix2 k n)
    = Spec.grad (argX m c) (argY m c) (argW m c) (argS m c) (argV m c) k n := by
  rw [show W4 m c (Proc.devRef .tc main_v4) = gradArr (E2 m) c from
    (W4_keeps m c main_v4 (by decide)).trans ((W3_arr m c 5).trans (arr1_5 (E2 m) c))]
  exact gradV_eq m c k n

/-- A one-row matrix viewed as a vector. -/
theorem cast15360_apply (x : S1x15360.Idx → EReal) (n : Fin 15360) : shapeCast S15360 x shapeCasts_S1x15360_S15360 (ix1 n) = x (ix2 0 n) := by
  refine shapeCast_apply x _ (ix1 n) (ix2 0 n) ?_
  show (Shape.rowMajorPi S1x15360.size (ix2 0 n)).val = (Shape.rowMajorPi S15360.size (ix1 n)).val
  rw [Shape.rowMajorPi_succ_val, Shape.rowMajorPi_succ_val, Shape.rowMajorPi_succ_val]
  simp [Fin.prod_univ_succ, Shape.rowMajorPi_zero]

theorem W3_v3_2 (c : Dev nD) : W3 m c (Proc.devRef .tc main_v3_2) = recArr (E1 m) c :=
  (W3_keeps m c main_v3_2 (by decide)).trans ((W2_arr m c 7).trans (arr0_7 (E1 m) c))
theorem W3_v3_3 (c : Dev nD) : W3 m c (Proc.devRef .tc main_v3_3) = regArr (E1 m) c :=
  (W3_keeps m c main_v3_3 (by decide)).trans ((W2_arr m c 8).trans (arr0_8 (E1 m) c))
theorem W3_v3_0 (c : Dev nD) : W3 m c (Proc.devRef .tc main_v3_0) = errArr (E1 m) c :=
  (W3_keeps m c main_v3_0 (by decide)).trans ((W2_arr m c 5).trans (arr0_5 (E1 m) c))

theorem W4_v5_cast (c : Dev nD) : W4 m c (Proc.devRef .tc main_v5) = shapeCast S15360 (W3 m c (Proc.devRef .tc main_v3_2)) shapeCasts_S1x15360_S15360 := by
  show StableHlo.after hostOps2 (W3 m c) (Proc.devRef .tc main_v5) = _
  after_results <;> rfl
theorem W4_v6_cast (c : Dev nD) : W4 m c (Proc.devRef .tc main_v6) = shapeCast S15360 (W3 m c (Proc.devRef .tc main_v3_3)) shapeCasts_S1x15360_S15360 := by
  show StableHlo.after hostOps2 (W3 m c) (Proc.devRef .tc main_v6) = _
  after_results <;> rfl
theorem W4_v7_cast (c : Dev nD) : W4 m c (Proc.devRef .tc main_v7) = shapeCast S6x2048x15360 (W3 m c (Proc.devRef .tc main_v3_0)) shapeCasts_S12288x15360_S6x2048x15360 := by
  show StableHlo.after hostOps2 (W3 m c) (Proc.devRef .tc main_v7) = _
  after_results <;> rfl

theorem W4_v5 (c : Dev nD) (n : Fin 15360) : (W4 m c (Proc.devRef .tc main_v5) : S15360.Idx → EReal) (ix1 n)
    = Spec.recon (argX m c) (argY m c) (argW m c) (argS m c) (argV m c) n := by
  rw [W4_v5_cast, W3_v3_2]
  exact (cast15360_apply (recArr (E1 m) c) n).trans (recV_eq m c n)
theorem W4_v6 (c : Dev nD) (n : Fin 15360) : (W4 m c (Proc.devRef .tc main_v6) : S15360.Idx → EReal) (ix1 n) = Spec.reg (argV m c) n := by
  rw [W4_v6_cast, W3_v3_3]
  exact (cast15360_apply (regArr (E1 m) c) n).trans (regV_eq m c n)
theorem W4_v7 (c : Dev nD) : W4 m c (Proc.devRef .tc main_v7)
    = shapeCast S6x2048x15360 (fun i : S12288x15360.Idx => Spec.err (argX m c) (argY m c) (argW m c) (argS m c) (argV m c) (i 0) (i 1)) shapeCasts_S12288x15360_S6x2048x15360 := by
  rw [W4_v7_cast, W3_v3_0]
  refine congrArg (fun f => shapeCast S6x2048x15360 f shapeCasts_S12288x15360_S6x2048x15360) (funext fun i : S12288x15360.Idx => ?_)
  exact errV_eq m c (i 0) (i 1)

end Cert.KernelIdeal.Hand

end
-- ==== Proof.RefValue.lean ====
module

public import proofs.«01_k».proof.Proof.Spec
public import proofs.«01_k».proof.Proof.Gen.ReferenceIdeal.Run
public import Idealize.ShloMosaic.Lib.StackMember
public import Idealize.ShloMosaic.Lib.IdealHost
public import Idealize.ShloMosaic.Lib.ValueLayout

@[expose] public section

set_option maxRecDepth 16384

noncomputable section

namespace Cert.ReferenceIdeal.Hand

open Idealize.ShloMosaic Idealize.ShloMosaic.TcCoe Idealize.ShloMosaic.ValueIdx
open Cert.ReferenceIdeal Cert.ReferenceIdeal.Gen Cert.ReferenceIdeal.Value
open Cert.Alg

/-! # The reference's four results over the extended reals

The host operations' composed terms, read at an index piece by piece, and met with the kernel's formulas through `Algebra.lean`. -/

/-! ## The constants that the reference divides -/

theorem c_eleven : Ideal.ofBits .f32 0x41300000#32 = ((11 : ℝ) : EReal) := by
  simp [Ideal.ofBits, Ideal.ieee, -EReal.coe_mul]; norm_num
theorem c_ten : Ideal.ofBits .f32 0x41200000#32 = ((10 : ℝ) : EReal) := by
  simp [Ideal.ofBits, Ideal.ieee, -EReal.coe_mul]; norm_num

theorem gamma_eq : Ideal.div (Ideal.ofBits .f32 0xBF800000#32) (Ideal.ofBits .f32 0x41200000#32) = ((-1 / 10 : ℝ) : EReal) := by
  rw [c_neg_one, c_ten, Ideal.div_coe (by norm_num), ← EReal.coe_mul]; congr 1; norm_num
theorem span_eq : Ideal.div (Ideal.ofBits .f32 0x41300000#32) (Ideal.ofBits .f32 0x41200000#32)
    - Ideal.div (Ideal.ofBits .f32 0xBF800000#32) (Ideal.ofBits .f32 0x41200000#32) = ((6 / 5 : ℝ) : EReal) := by
  rw [gamma_eq, c_eleven, c_ten, Ideal.div_coe (by norm_num), ← EReal.coe_mul, ← EReal.coe_sub]; congr 1; norm_num

/-! ## The elementwise pieces -/

variable (v : Vec Ideal S5120x15360 .f32) (w : Vec Ideal S5120x15360 .i8) (s : Vec Ideal S15360 .f32)

/-- A constant at every index. -/
abbrev fill (b : BitVec 32) : FVec Ideal S5120x15360 .f32 := broadcastInDim S5120x15360 ![] bcast_S_S5120x15360 (constant S_ .f32 b)
/-- The lower stretch constant, and the span between the two. -/
abbrev lowC : FVec Ideal S_ .f32 := Host.divf (constant S_ .f32 0xBF800000#32) (constant S_ .f32 0x41200000#32)
abbrev spanC : FVec Ideal S_ .f32 := subf (Host.divf (constant S_ .f32 0x41300000#32) (constant S_ .f32 0x41200000#32)) lowC
abbrev lowF : FVec Ideal S5120x15360 .f32 := broadcastInDim S5120x15360 ![] bcast_S_S5120x15360 lowC
abbrev spanF : FVec Ideal S5120x15360 .f32 := broadcastInDim S5120x15360 ![] bcast_S_S5120x15360 spanC

theorem lowF_apply (i : S5120x15360.Idx) : lowF i = ((-1 / 10 : ℝ) : EReal) := gamma_eq
theorem spanF_apply (i : S5120x15360.Idx) : spanF i = ((6 / 5 : ℝ) : EReal) := span_eq

/-- The sigmoid, -/
def sgF : FVec Ideal S5120x15360 .f32 := Host.divf (fill 0x3F800000#32) (addf (fill 0x3F800000#32) (Host.exp (Host.negf v)))
/-- stretched, -/
def tF : FVec Ideal S5120x15360 .f32 := addf (mulf (sgF v) spanF) lowF
/-- rectified. -/
def hF : FVec Ideal S5120x15360 .f32 := minimumf (fill 0x3F800000#32) (maximumf (fill 0x00000000#32) (tF v))
/-- The code plus the rectified sigmoid, -/
def preF : FVec Ideal S5120x15360 .f32 := addf (sitofp .f32 (extsi 32 w natLt_8_32)) (hF v)
/-- the scales, a copy for every row, -/
def scF : FVec Ideal S5120x15360 .f32 :=
  broadcastInDim S5120x15360 ![0, 1] bcast_S1x15360_S5120x15360_0_1 (broadcastInDim S1x15360 ![1] bcast_S15360_S1x15360_1 s)
/-- and the dequantized weights. -/
def whatF : FVec Ideal S5120x15360 .bf16 :=
  truncf .bf16 (mulf (scF s) (minimumf (fill 0x40E00000#32) (maximumf (fill 0xC1000000#32) (preF v w)))) bitsLt_bf16_f32
/-- The regularizer's argument, -/
def uF : FVec Ideal S5120x15360 .f32 := subf (mulf (fill 0x40000000#32) (hF v)) (fill 0x3F800000#32)
/-- its terms, -/
def rgF : FVec Ideal S5120x15360 .f32 := subf (fill 0x3F800000#32) (Host.powf (Host.absf (uF v)) (fill 0x41000000#32))
/-- its derivative, -/
def drgF : FVec Ideal S5120x15360 .f32 :=
  mulf (mulf (fill 0xBB4CCCCD#32) (Host.sign (uF v))) (Host.powf (Host.absf (uF v)) (fill 0x40E00000#32))
/-- and the rectified sigmoid's. -/
def dhF : FVec Ideal S5120x15360 .f32 :=
  select (andi (cmpf .ogt (tF v) (fill 0x00000000#32)) (cmpf .olt (tF v) (fill 0x3F800000#32)))
    (mulf (mulf spanF (sgF v)) (subf (fill 0x3F800000#32) (sgF v))) (fill 0x00000000#32)

theorem sgF_apply (i : S5120x15360.Idx) : sgF v i = sgR (v i) := rfl
theorem tF_apply (i : S5120x15360.Idx) : tF v i = tR (v i) := by
  show sgF v i * spanF i + lowF i = _
  rw [sgF_apply, spanF_apply, lowF_apply]; rfl
theorem hF_apply (i : S5120x15360.Idx) : hF v i = hR (v i) := by
  show min _ (max _ (tF v i)) = _
  rw [tF_apply]; rfl
/-- Widening a code and then converting it gives the code's own value. -/
theorem code_wide (b : BitVec 8) : FloatOps.sitofp (F := Ideal) .f32 (b.signExtend 32) = FloatOps.sitofp (F := Ideal) .f32 b := by
  show (((b.signExtend 32).toInt : ℝ) : EReal) = ((b.toInt : ℝ) : EReal)
  rw [BitVec.toInt_signExtend_of_le (by decide)]
theorem preF_apply (i : S5120x15360.Idx) : preF v w i = preR (FloatOps.sitofp (F := Ideal) .f32 (w i)) (v i) := by
  show FloatOps.sitofp (F := Ideal) .f32 ((w i).signExtend 32) + hF v i = _
  rw [code_wide, hF_apply]; rfl
theorem scF_apply (k : Fin 5120) (n : Fin 15360) : scF s (ix2 k n) = s (ix1 n) := by
  unfold scF
  refine (broadcastInDim_apply ![0, 1] bcast_S1x15360_S5120x15360_0_1 (broadcastInDim S1x15360 ![1] bcast_S15360_S1x15360_1 s) (ix2 k n) (ix2 0 n)
    fun a => match a with | ⟨0, _⟩ => rfl | ⟨1, _⟩ => rfl).trans ?_
  exact broadcastInDim_apply ![1] _ s (ix2 0 n) (ix1 n) fun a => match a with | ⟨0, _⟩ => rfl
theorem whatF_apply (k : Fin 5120) (n : Fin 15360) : whatF v w s (ix2 k n) = Spec.what w (fun n => s (ix1 n)) v k n := by
  show scF s (ix2 k n) * min _ (max _ (preF v w (ix2 k n))) = _
  rw [scF_apply, preF_apply, pre_eq]; rfl
theorem uF_apply (i : S5120x15360.Idx) : uF v i = uR (v i) := by
  show _ * hF v i - _ = _
  rw [hF_apply]; rfl
theorem rgF_apply (i : S5120x15360.Idx) : rgF v i = regK (v i) := by
  show _ - Ideal.pow (absR (uF v i)) _ = _
  rw [uF_apply, ← reg_eq]; rfl
theorem drgF_apply (i : S5120x15360.Idx) : drgF v i = dregR (v i) := by
  show _ * Ideal.sign (uF v i) * Ideal.pow (absR (uF v i)) _ = _
  rw [uF_apply]; rfl
theorem dhF_apply (i : S5120x15360.Idx) : dhF v i = dhR (v i) := by
  show Scalar.select (Ideal.cmp .ogt (tF v i) _ &&& Ideal.cmp .olt (tF v i) _) (spanF i * sgF v i * (_ - sgF v i)) _ = _
  rw [tF_apply, spanF_apply, sgF_apply]; rfl

/-! ## The two products -/

variable (X : FVec Ideal S12288x5120 .bf16) (Y : FVec Ideal S12288x15360 .bf16)

/-- The residuals. -/
def errF : FVec Ideal S12288x15360 .f32 :=
  subf (extf .f32 Y bitsLt_bf16_f32) (Host.dotGeneral dot_S12288x5120_S5120x15360_S12288x15360_1_0_0_1_n_n none X (whatF v w s))

theorem errF_apply (a : Fin 12288) (n : Fin 15360) : errF v w s X Y (ix2 a n) = Spec.err X Y w (fun n => s (ix1 n)) v a n := by
  show Y (ix2 a n) - Host.dotGeneral dot_S12288x5120_S5120x15360_S12288x15360_1_0_0_1_n_n none X (whatF v w s) (ix2 a n) = _
  refine congrArg (fun z : EReal => (Y (ix2 a n) : EReal) - z) ?_
  refine (StackMember.dotGeneral_plain_apply none X (whatF v w s) a n).trans (Finset.sum_congr rfl fun k _ => ?_)
  rw [whatF_apply]

/-- The product of the transposed activations with a matrix. -/
theorem dotT_apply (A : FVec Ideal S12288x5120 .bf16) (B : FVec Ideal S12288x15360 .bf16) (k : Fin 5120) (n : Fin 15360) :
    Host.dotGeneral dot_S12288x5120_S12288x15360_S5120x15360_0_0_1_1_n_n none A B (ix2 k n) = ∑ a : Fin 12288, A (ix2 a k) * B (ix2 a n) := by
  show FloatOps.dotGeneral _ none _ A B (ix2 k n) = _
  rw [Ideal.dotGeneral_apply, ← Equiv.sum_comp (contrEquiv1 dot_S12288x5120_S12288x15360_S5120x15360_0_0_1_1_n_n 12288 rfl rfl).symm]
  refine Finset.sum_congr rfl fun c _ => ?_
  have c2 := contrEquiv1_symm_val dot_S12288x5120_S12288x15360_S5120x15360_0_0_1_1_n_n 12288 rfl rfl c
  have l2 : dot_S12288x5120_S12288x15360_S5120x15360_0_0_1_1_n_n.lhsIdx (ix2 k n) ((contrEquiv1 _ 12288 rfl rfl).symm c) = ix2 c k := by
    funext ax; apply Fin.ext
    match ax with
    | ⟨0, _⟩ => simp [DotDims.lhsIdx, dot_S12288x5120_S12288x15360_S5120x15360_0_0_1_1_n_n]; exact c2
    | ⟨1, _⟩ => simp [DotDims.lhsIdx, dot_S12288x5120_S12288x15360_S5120x15360_0_0_1_1_n_n]; rfl
  have r2 : dot_S12288x5120_S12288x15360_S5120x15360_0_0_1_1_n_n.rhsIdx (ix2 k n) ((contrEquiv1 _ 12288 rfl rfl).symm c) = ix2 c n := by
    funext ax; apply Fin.ext
    match ax with
    | ⟨0, _⟩ => simp [DotDims.rhsIdx, dot_S12288x5120_S12288x15360_S5120x15360_0_0_1_1_n_n]; exact c2
    | ⟨1, _⟩ => simp [DotDims.rhsIdx, dot_S12288x5120_S12288x15360_S5120x15360_0_0_1_1_n_n]; rfl
  rw [l2, r2]

/-! ## The results -/

/-- The mean square residuals. -/
def reconF : FVec Ideal S15360 .f32 :=
  Host.divf (Host.reduceAdd (mulf (errF v w s X Y) (errF v w s X Y)) (constant S_ .f32 0x00000000#32) reducesTo_S12288x15360_S15360_d0 h_S_)
    (broadcastInDim S15360 ![] bcast_S_S15360 (constant S_ .f32 0x46400000#32))
/-- The regularizers. -/
def regF : FVec Ideal S15360 .f32 :=
  mulf (broadcastInDim S15360 ![] bcast_S_S15360 (constant S_ .f32 0x394CCCCD#32))
    (Host.reduceAdd (rgF v) (constant S_ .f32 0x00000000#32) reducesTo_S5120x15360_S15360_d0 h_S_)
/-- The gradient. -/
def gradF : FVec Ideal S5120x15360 .f32 :=
  mulf (addf (mulf (mulf (mulf (fill 0xB92AAAAB#32)
      (Host.dotGeneral dot_S12288x5120_S12288x15360_S5120x15360_0_0_1_1_n_n none X (truncf .bf16 (errF v w s X Y) bitsLt_bf16_f32))) (scF s))
    (select (cmpf .ole (preF v w) (fill 0x40E00000#32)) (fill 0x3F800000#32) (fill 0x00000000#32))) (drgF v)) (dhF v)

theorem reduces_rows : S12288x15360.Reduces [0] S15360 := by decide
theorem reduces_features : S5120x15360.Reduces [0] S15360 := by decide

theorem reconF_apply (n : Fin 15360) : reconF v w s X Y (ix1 n) = Spec.recon X Y w (fun n => s (ix1 n)) v n := by
  show Ideal.div (Ideal.hostReduceAdd reducesTo_S12288x15360_S15360_d0 (mulf (errF v w s X Y) (errF v w s X Y)) (Ideal.ofBits .f32 0x00000000#32) (ix1 n)) (Ideal.ofBits .f32 0x46400000#32) = _
  rw [Ideal.hostReduceAdd_single _ reduces_rows, Ideal.ofBits_zero_f32, zero_add]
  refine congrArg (fun z : EReal => Ideal.div z _) (Finset.sum_congr rfl fun k _ => ?_)
  have e : reduces_rows.lift (ix1 n) k = ix2 k n := by
    funext a; apply Fin.ext; match a with | ⟨0, _⟩ => rfl | ⟨1, _⟩ => rfl
  rw [e]
  exact congrArg₂ (fun a b : EReal => a * b) (errF_apply v w s X Y k n) (errF_apply v w s X Y k n)

theorem regF_apply (n : Fin 15360) : regF v (ix1 n) = Spec.reg v n := by
  show Ideal.ofBits .f32 0x394CCCCD#32 * Ideal.hostReduceAdd reducesTo_S5120x15360_S15360_d0 (rgF v) (Ideal.ofBits .f32 0x00000000#32) (ix1 n) = _
  rw [Ideal.hostReduceAdd_single _ reduces_features, Ideal.ofBits_zero_f32, zero_add]
  refine congrArg (fun z : EReal => _ * z) (Finset.sum_congr rfl fun k _ => ?_)
  have e : reduces_features.lift (ix1 n) k = ix2 k n := by
    funext a; apply Fin.ext; match a with | ⟨0, _⟩ => rfl | ⟨1, _⟩ => rfl
  rw [e]
  exact rgF_apply v (ix2 k n)

theorem gradF_apply (k : Fin 5120) (n : Fin 15360) : gradF v w s X Y (ix2 k n) = Spec.grad X Y w (fun n => s (ix1 n)) v k n := by
  show (_ * Host.dotGeneral dot_S12288x5120_S12288x15360_S5120x15360_0_0_1_1_n_n none X (truncf .bf16 (errF v w s X Y) bitsLt_bf16_f32) (ix2 k n) * scF s (ix2 k n)
    * Scalar.select (Ideal.cmp .ole (preF v w (ix2 k n)) _) _ _ + drgF v (ix2 k n)) * dhF v (ix2 k n) = _
  rw [dotT_apply, scF_apply, preF_apply, drgF_apply, dhF_apply]
  refine Eq.trans (b := dvR (∑ a : Fin 12288, X (ix2 a k) * errF v w s X Y (ix2 a n)) (s (ix1 n)) (FloatOps.sitofp (F := Ideal) .f32 (w (ix2 k n))) (v (ix2 k n))) rfl ?_
  rw [dv_eq]
  unfold Spec.grad
  refine congrArg (fun z : EReal => dvK z _ _ _) (Finset.sum_congr rfl fun a _ => ?_)
  rw [errF_apply]

end Cert.ReferenceIdeal.Hand

end
-- ==== Proof.Values.lean ====
/- The value claim: over the extended reals the kernel's four results equal the reference's. -/
module

public import proofs.«01_k».proof.Defs
public import proofs.«01_k».proof.Proof.KernelValue
public import proofs.«01_k».proof.Proof.RefValue

@[expose] public section

set_option maxRecDepth 16384

noncomputable section

namespace Cert.Proof

open Idealize.ShloMosaic Idealize.ShloMosaic.TcCoe Idealize.ShloMosaic.ValueIdx Idealize.SL.Sem
open Cert.KernelIdeal.Hand (argX argY argW argS argV W4)

section Reference

open Cert.ReferenceIdeal Cert.ReferenceIdeal.Gen Cert.ReferenceIdeal.Hand

variable (m' : (ℓ : Loc Cert.ReferenceIdeal.nD Cert.ReferenceIdeal.τ Cert.ReferenceIdeal.sig) → Buf (Elt Ideal) ℓ)

/-- The reference's arguments: activations, targets, codes, scales, rounding variables. -/
abbrev refX (c : Dev Cert.ReferenceIdeal.nD) : FVec Ideal Cert.ReferenceIdeal.S12288x5120 .bf16 :=
  shapeCast Cert.ReferenceIdeal.S12288x5120 (m' ((c.tc : Thread Cert.ReferenceIdeal.nD Cert.ReferenceIdeal.τ).loc Cert.ReferenceIdeal.main_arg0)) shapeCasts_S6x2048x5120_S12288x5120
abbrev refY (c : Dev Cert.ReferenceIdeal.nD) : FVec Ideal Cert.ReferenceIdeal.S12288x15360 .bf16 :=
  shapeCast Cert.ReferenceIdeal.S12288x15360 (m' ((c.tc : Thread Cert.ReferenceIdeal.nD Cert.ReferenceIdeal.τ).loc Cert.ReferenceIdeal.main_arg1)) shapeCasts_S6x2048x15360_S12288x15360
abbrev refW (c : Dev Cert.ReferenceIdeal.nD) : Vec Ideal Cert.ReferenceIdeal.S5120x15360 .i8 :=
  m' ((c.tc : Thread Cert.ReferenceIdeal.nD Cert.ReferenceIdeal.τ).loc Cert.ReferenceIdeal.main_arg2)
abbrev refS (c : Dev Cert.ReferenceIdeal.nD) : Vec Ideal Cert.ReferenceIdeal.S15360 .f32 :=
  m' ((c.tc : Thread Cert.ReferenceIdeal.nD Cert.ReferenceIdeal.τ).loc Cert.ReferenceIdeal.main_arg3)
abbrev refV (c : Dev Cert.ReferenceIdeal.nD) : Vec Ideal Cert.ReferenceIdeal.S5120x15360 .f32 :=
  m' ((c.tc : Thread Cert.ReferenceIdeal.nD Cert.ReferenceIdeal.τ).loc Cert.ReferenceIdeal.main_arg4)

/-- The reference's run, its results named piece by piece. -/
theorem ref_run (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v30) = reconF (refV m' c) (refW m' c) (refS m' c) (refX m' c) (refY m' c)
      ∧ r.2.mem ((c.tc : Thread Cert.ReferenceIdeal.nD Cert.ReferenceIdeal.τ).loc Cert.ReferenceIdeal.main_v42) = regF (refV m' c)
      ∧ r.2.mem ((c.tc : Thread Cert.ReferenceIdeal.nD Cert.ReferenceIdeal.τ).loc Cert.ReferenceIdeal.main_v75)
          = shapeCast Cert.ReferenceIdeal.S6x2048x15360 (errF (refV m' c) (refW m' c) (refS m' c) (refX m' c) (refY m' c)) shapeCasts_S12288x15360_S6x2048x15360
      ∧ r.2.mem ((c.tc : Thread Cert.ReferenceIdeal.nD Cert.ReferenceIdeal.τ).loc Cert.ReferenceIdeal.main_v74) = gradF (refV m' c) (refW m' c) (refS m' c) (refX m' c) (refY m' c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono (fun _ h c => ⟨(h c).1.trans rfl, (h c).2.1.trans rfl, (h c).2.2.1.trans rfl,
    (h c).2.2.2.1.trans (by unfold Cert.ReferenceIdeal.Value.res_main_v74; rfl), (h c).2.2.2.2⟩)
    (Cert.ReferenceIdeal.Value.run (F := Ideal) m' g')

end Reference

section Meet

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories agree on the arguments. -/
structure Agree (c : Dev Cert.KernelIdeal.nD) : Prop where
  x : refX m' c = argX m c
  y : refY m' c = argY m c
  w : refW m' c = argW m c
  s : (fun n => refS m' c (ix1 n)) = argS m c
  v : refV m' c = argV m c

variable {m m'}

theorem meet_recon {c : Dev Cert.KernelIdeal.nD} (h : Agree m m' c) :
    Cert.ReferenceIdeal.Hand.reconF (refV m' c) (refW m' c) (refS m' c) (refX m' c) (refY m' c) = W4 m c (Proc.devRef .tc Cert.KernelIdeal.main_v5) := by
  refine funext fun (i : Cert.KernelIdeal.S15360.Idx) => ?_
  obtain ⟨n, rfl⟩ : ∃ n, i = ix1 n := ⟨_, eq_ix1 i⟩
  refine (Cert.ReferenceIdeal.Hand.reconF_apply _ _ _ _ _ n).trans (Eq.trans ?_ (Cert.KernelIdeal.Hand.W4_v5 m c n).symm)
  rw [h.x, h.y, h.w, h.s, h.v]

theorem meet_reg {c : Dev Cert.KernelIdeal.nD} (h : Agree m m' c) :
    Cert.ReferenceIdeal.Hand.regF (refV m' c) = W4 m c (Proc.devRef .tc Cert.KernelIdeal.main_v6) := by
  refine funext fun (i : Cert.KernelIdeal.S15360.Idx) => ?_
  obtain ⟨n, rfl⟩ : ∃ n, i = ix1 n := ⟨_, eq_ix1 i⟩
  refine (Cert.ReferenceIdeal.Hand.regF_apply _ n).trans (Eq.trans ?_ (Cert.KernelIdeal.Hand.W4_v6 m c n).symm)
  rw [h.v]

theorem meet_err {c : Dev Cert.KernelIdeal.nD} (h : Agree m m' c) :
    shapeCast Cert.ReferenceIdeal.S6x2048x15360 (Cert.ReferenceIdeal.Hand.errF (refV m' c) (refW m' c) (refS m' c) (refX m' c) (refY m' c))
      Cert.ReferenceIdeal.Gen.facts₀.shapeCasts_S12288x15360_S6x2048x15360 = W4 m c (Proc.devRef .tc Cert.KernelIdeal.main_v7) := by
  rw [Cert.KernelIdeal.Hand.W4_v7]
  refine congrArg (fun f => shapeCast Cert.KernelIdeal.S6x2048x15360 f Cert.KernelIdeal.Gen.facts₀.shapeCasts_S12288x15360_S6x2048x15360)
    (funext fun (i : Cert.KernelIdeal.S12288x15360.Idx) => ?_)
  obtain ⟨a, n, rfl⟩ : ∃ a n, i = ix2 a n := ⟨_, _, eq_ix2 i⟩
  refine (Cert.ReferenceIdeal.Hand.errF_apply _ _ _ _ _ a n).trans ?_
  rw [h.x, h.y, h.w, h.s, h.v]

theorem meet_grad {c : Dev Cert.KernelIdeal.nD} (h : Agree m m' c) :
    Cert.ReferenceIdeal.Hand.gradF (refV m' c) (refW m' c) (refS m' c) (refX m' c) (refY m' c) = W4 m c (Proc.devRef .tc Cert.KernelIdeal.main_v4) := by
  refine funext fun (i : Cert.KernelIdeal.S5120x15360.Idx) => ?_
  obtain ⟨k, n, rfl⟩ : ∃ k n, i = ix2 k n := ⟨_, _, eq_ix2 i⟩
  refine (Cert.ReferenceIdeal.Hand.gradF_apply _ _ _ _ _ k n).trans (Eq.trans ?_ (Cert.KernelIdeal.Hand.W4_v4 m c k n).symm)
  rw [h.x, h.y, h.w, h.s, h.v]

end Meet

/-- From memories that agree on the arguments both programs run, and all four results are equal: the column means of the
    squared residuals, the column sums of the regularizer, the residuals and the gradient. -/
theorem algebraic : Cert.algebraic_KernelIdeal_ReferenceIdeal (hKernelIdeal := Cert.KernelIdeal.Gen.facts) (hReferenceIdeal := Cert.ReferenceIdeal.Gen.facts) := by
  intro m g m' g' _ hagree
  have ha : ∀ c, Agree m m' c := fun c => by
    obtain ⟨h0, h1, h2, h3, h4⟩ := hagree c
    exact ⟨congrArg (fun f => shapeCast Cert.KernelIdeal.S12288x5120 f Cert.KernelIdeal.Gen.facts₀.shapeCasts_S6x2048x5120_S12288x5120) h0,
      congrArg (fun f => shapeCast Cert.KernelIdeal.S12288x15360 f Cert.KernelIdeal.Gen.facts₀.shapeCasts_S6x2048x15360_S12288x15360) h1,
      h2, funext fun n => congrFun h3 (ix1 n), h4⟩
  refine ⟨fun c => W4 m c (Proc.devRef .tc Cert.KernelIdeal.main_v5), fun c => W4 m c (Proc.devRef .tc Cert.KernelIdeal.main_v6),
    fun c => W4 m c (Proc.devRef .tc Cert.KernelIdeal.main_v7), fun c => W4 m c (Proc.devRef .tc Cert.KernelIdeal.main_v4), ?_, ?_⟩
  · refine (θ_run Cert.KernelIdeal.defs _ _).mono (fun r h c => ?_) (Cert.KernelIdeal.Hand.run (F := Ideal) m g)
    exact ⟨h.1 c Cert.KernelIdeal.main_v5 rfl, h.1 c Cert.KernelIdeal.main_v6 rfl, h.1 c Cert.KernelIdeal.main_v7 rfl, h.1 c Cert.KernelIdeal.main_v4 rfl,
      (h.1 c Cert.KernelIdeal.main_arg0 rfl).trans (Cert.KernelIdeal.Hand.W4_arg m c Cert.KernelIdeal.main_arg0 (by decide) (by decide) (by decide) (by decide)),
      (h.1 c Cert.KernelIdeal.main_arg1 rfl).trans (Cert.KernelIdeal.Hand.W4_arg m c Cert.KernelIdeal.main_arg1 (by decide) (by decide) (by decide) (by decide)),
      (h.1 c Cert.KernelIdeal.main_arg2 rfl).trans (Cert.KernelIdeal.Hand.W4_arg m c Cert.KernelIdeal.main_arg2 (by decide) (by decide) (by decide) (by decide)),
      (h.1 c Cert.KernelIdeal.main_arg3 rfl).trans (Cert.KernelIdeal.Hand.W4_arg m c Cert.KernelIdeal.main_arg3 (by decide) (by decide) (by decide) (by decide)),
      (h.1 c Cert.KernelIdeal.main_arg4 rfl).trans (Cert.KernelIdeal.Hand.W4_arg m c Cert.KernelIdeal.main_arg4 (by decide) (by decide) (by decide) (by decide))⟩
  · refine (θ_run Cert.ReferenceIdeal.defs _ _).mono (fun r h c => ?_) (ref_run m' g')
    exact ⟨(h c).1.trans (meet_recon (ha c)), (h c).2.1.trans (meet_reg (ha c)), (h c).2.2.1.trans (meet_err (ha c)),
      (h c).2.2.2.1.trans (meet_grad (ha c)), (h c).2.2.2.2⟩

end Cert.Proof

end
-- ==== Proof.lean ====
module

public import proofs.«01_k».proof.Defs
public import proofs.«01_k».proof.Proof.Frames
public import proofs.«01_k».proof.Proof.Values

@[expose] public section

noncomputable section

namespace Cert.Proof

open Idealize.ShloMosaic Idealize.SL.Sem

/-- Three frames (`Frames.lean`), the named constants (`Frames.lean`) and the equality of all four results (`Values.lean`). -/
theorem claim : Cert.Claim := ⟨Cert.Kernel.Gen.facts, Cert.KernelIdeal.Gen.facts, Cert.ReferenceIdeal.Gen.facts,
  frame_p, frame_pi, frame_ri, preserves, algebraic⟩

end Cert.Proof

end
